-- ==== Defs.lean ====
def Pre_Whole (m : (ℓ : Loc Cert.Whole.nD Cert.Whole.τ Cert.Whole.sig) → Buf (Elt Bits) ℓ) : Prop :=
  True

def Pre_WholeIdeal (m : (ℓ : Loc Cert.WholeIdeal.nD Cert.WholeIdeal.τ Cert.WholeIdeal.sig) → Buf (Elt Ideal) ℓ) : Prop :=
  True

def Pre_WholeReferenceIdeal (m : (ℓ : Loc Cert.WholeReferenceIdeal.nD Cert.WholeReferenceIdeal.τ Cert.WholeReferenceIdeal.sig) → Buf (Elt Ideal) ℓ) : Prop :=
  True

def Pre_Quant (m : (ℓ : Loc Cert.Quant.nD Cert.Quant.τ Cert.Quant.sig) → Buf (Elt Bits) ℓ) : Prop :=
  True

def Pre_QuantReference (m : (ℓ : Loc Cert.QuantReference.nD Cert.QuantReference.τ Cert.QuantReference.sig) → Buf (Elt Bits) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1)
      ∧ r.2.mem ((c.tc : Thread Cert.Whole.nD Cert.Whole.τ).loc Cert.Whole.main_arg2) = m ((c.tc : Thread Cert.Whole.nD Cert.Whole.τ).loc Cert.Whole.main_arg2))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ r.2.sem = fun _ => 0)

def quiescent_WholeReferenceIdeal [hWholeReferenceIdeal : Cert.WholeReferenceIdeal.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantReference [hQuantReference : Cert.QuantReference.Facts] : Prop :=
  ∀ (m : (ℓ : Loc Cert.QuantReference.nD Cert.QuantReference.τ Cert.QuantReference.sig) → Buf (Elt Bits) ℓ) (g : Dev Cert.QuantReference.nD → PrngReg), Pre_QuantReference m →
    θ_run (Cert.QuantReference.defs (F := Bits)) (onTc (τ := Cert.QuantReference.τ) (Cert.QuantReference.main (F := Bits))) ⟨m, fun _ => 0, g⟩ (fun r => (∀ c : Dev Cert.QuantReference.nD,
      r.2.mem ((c.tc : Thread Cert.QuantReference.nD Cert.QuantReference.τ).loc Cert.QuantReference.main_arg0) = m ((c.tc : Thread Cert.QuantReference.nD Cert.QuantReference.τ).loc Cert.QuantReference.main_arg0))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Whole_WholeIdeal : Prop :=
  True

def algebraic_WholeIdeal_WholeReferenceIdeal [hWholeIdeal : Cert.WholeIdeal.Facts] [hWholeReferenceIdeal : Cert.WholeReferenceIdeal.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg), Pre_WholeIdeal m →
    (∀ c : Dev Cert.WholeIdeal.nD,
      m' ((c.tc : Thread Cert.WholeReferenceIdeal.nD Cert.WholeReferenceIdeal.τ).loc Cert.WholeReferenceIdeal.main_arg0) = m ((c.tc : Thread Cert.WholeIdeal.nD Cert.WholeIdeal.τ).loc Cert.WholeIdeal.main_arg0)
      ∧ m' ((c.tc : Thread Cert.WholeReferenceIdeal.nD Cert.WholeReferenceIdeal.τ).loc Cert.WholeReferenceIdeal.main_arg1) = m ((c.tc : Thread Cert.WholeIdeal.nD Cert.WholeIdeal.τ).loc Cert.WholeIdeal.main_arg1)
      ∧ m' ((c.tc : Thread Cert.WholeReferenceIdeal.nD Cert.WholeReferenceIdeal.τ).loc Cert.WholeReferenceIdeal.main_arg2) = m ((c.tc : Thread Cert.WholeIdeal.nD Cert.WholeIdeal.τ).loc Cert.WholeIdeal.main_arg2)) →
    ∃ (v0 : (c : Dev Cert.WholeIdeal.nD) → Buf (Elt Ideal) ((c.tc : Thread Cert.WholeIdeal.nD Cert.WholeIdeal.τ).loc Cert.WholeIdeal.main_v2)) (v1 : (c : Dev Cert.WholeIdeal.nD) → Buf (Elt Ideal) ((c.tc : Thread Cert.WholeIdeal.nD Cert.WholeIdeal.τ).loc Cert.WholeIdeal.main_v0_0)) (v2 : (c : Dev Cert.WholeIdeal.nD) → Buf (Elt Ideal) ((c.tc : Thread Cert.WholeIdeal.nD Cert.WholeIdeal.τ).loc Cert.WholeIdeal.main_v0_1)),
      θ_run (Cert.WholeIdeal.defs (F := Ideal)) (onTc (τ := Cert.WholeIdeal.τ) (Cert.WholeIdeal.main (F := Ideal))) ⟨m, fun _ => 0, g⟩ (fun r => ∀ c : Dev Cert.WholeIdeal.nD,
          r.2.mem ((c.tc : Thread Cert.WholeIdeal.nD Cert.WholeIdeal.τ).loc Cert.WholeIdeal.main_v2) = v0 c
          ∧ r.2.mem ((c.tc : Thread Cert.WholeIdeal.nD Cert.WholeIdeal.τ).loc Cert.WholeIdeal.main_v0_0) = v1 c
          ∧ r.2.mem ((c.tc : Thread Cert.WholeIdeal.nD Cert.WholeIdeal.τ).loc Cert.WholeIdeal.main_v0_1) = v2 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ θ_run (Cert.WholeReferenceIdeal.defs (F := Ideal)) (onTc (τ := Cert.WholeReferenceIdeal.τ) (Cert.WholeReferenceIdeal.main (F := Ideal))) ⟨m', fun _ => 0, g'⟩ (fun r => ∀ c : Dev Cert.WholeReferenceIdeal.nD,
          r.2.mem ((c.tc : Thread Cert.WholeReferenceIdeal.nD Cert.WholeReferenceIdeal.τ).loc Cert.WholeReferenceIdeal.main_v0_0) = v0 c
          ∧ r.2.mem ((c.tc : Thread Cert.WholeReferenceIdeal.nD Cert.WholeReferenceIdeal.τ).loc Cert.WholeReferenceIdeal.main_v0_1) = v1 c
          ∧ r.2.mem ((c.tc : Thread Cert.WholeReferenceIdeal.nD Cert.WholeReferenceIdeal.τ).loc Cert.WholeReferenceIdeal.main_v0_2) = v2 c
          ∧ r.2.mem ((c.tc : Thread Cert.WholeReferenceIdeal.nD Cert.WholeReferenceIdeal.τ).loc Cert.WholeReferenceIdeal.main_arg0) = m' ((c.tc : Thread Cert.WholeReferenceIdeal.nD Cert.WholeReferenceIdeal.τ).loc Cert.WholeReferenceIdeal.main_arg0)
          ∧ r.2.mem ((c.tc : Thread Cert.WholeReferenceIdeal.nD Cert.WholeReferenceIdeal.τ).loc Cert.WholeReferenceIdeal.main_arg1) = m' ((c.tc : Thread Cert.WholeReferenceIdeal.nD Cert.WholeReferenceIdeal.τ).loc Cert.WholeReferenceIdeal.main_arg1)
          ∧ r.2.mem ((c.tc : Thread Cert.WholeReferenceIdeal.nD Cert.WholeReferenceIdeal.τ).loc Cert.WholeReferenceIdeal.main_arg2) = m' ((c.tc : Thread Cert.WholeReferenceIdeal.nD Cert.WholeReferenceIdeal.τ).loc Cert.WholeReferenceIdeal.main_arg2))

def bitexact_Quant_QuantReference [hQuant : Cert.Quant.Facts] [hQuantReference : Cert.QuantReference.Facts] : Prop :=
  ∀ (m : (ℓ : Loc Cert.Quant.nD Cert.Quant.τ Cert.Quant.sig) → Buf (Elt Bits) ℓ) (g : Dev Cert.Quant.nD → PrngReg)
    (m' : (ℓ : Loc Cert.QuantReference.nD Cert.QuantReference.τ Cert.QuantReference.sig) → Buf (Elt Bits) ℓ) (g' : Dev Cert.QuantReference.nD → PrngReg), Pre_Quant m →
    (∀ c : Dev Cert.Quant.nD,
      m' ((c.tc : Thread Cert.QuantReference.nD Cert.QuantReference.τ).loc Cert.QuantReference.main_arg0) = m ((c.tc : Thread Cert.Quant.nD Cert.Quant.τ).loc Cert.Quant.main_arg0)) →
    ∃ (v0 : (c : Dev Cert.Quant.nD) → Buf (Elt Bits) ((c.tc : Thread Cert.Quant.nD Cert.Quant.τ).loc Cert.Quant.main_v0_0)) (v1 : (c : Dev Cert.Quant.nD) → Buf (Elt Bits) ((c.tc : Thread Cert.Quant.nD Cert.Quant.τ).loc Cert.Quant.main_v0_1)),
      θ_run (Cert.Quant.defs (F := Bits)) (onTc (τ := Cert.Quant.τ) (Cert.Quant.main (F := Bits))) ⟨m, fun _ => 0, g⟩ (fun r => ∀ c : Dev Cert.Quant.nD,
          r.2.mem ((c.tc : Thread Cert.Quant.nD Cert.Quant.τ).loc Cert.Quant.main_v0_0) = v0 c
          ∧ r.2.mem ((c.tc : Thread Cert.Quant.nD Cert.Quant.τ).loc Cert.Quant.main_v0_1) = v1 c
          ∧ r.2.mem ((c.tc : Thread Cert.Quant.nD Cert.Quant.τ).loc Cert.Quant.main_arg0) = m ((c.tc : Thread Cert.Quant.nD Cert.Quant.τ).loc Cert.Quant.main_arg0))
      ∧ θ_run (Cert.QuantReference.defs (F := Bits)) (onTc (τ := Cert.QuantReference.τ) (Cert.QuantReference.main (F := Bits))) ⟨m', fun _ => 0, g'⟩ (fun r => ∀ c : Dev Cert.QuantReference.nD,
          r.2.mem ((c.tc : Thread Cert.QuantReference.nD Cert.QuantReference.τ).loc Cert.QuantReference.main_v0_0) = v0 c
          ∧ r.2.mem ((c.tc : Thread Cert.QuantReference.nD Cert.QuantReference.τ).loc Cert.QuantReference.main_v0_1) = v1 c
          ∧ r.2.mem ((c.tc : Thread Cert.QuantReference.nD Cert.QuantReference.τ).loc Cert.QuantReference.main_arg0) = m' ((c.tc : Thread Cert.QuantReference.nD Cert.QuantReference.τ).loc Cert.QuantReference.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hWhole : Cert.Whole.Facts) (hWholeIdeal : Cert.WholeIdeal.Facts) (hWholeReferenceIdeal : Cert.WholeReferenceIdeal.Facts) (hQuant : Cert.Quant.Facts) (hQuantReference : Cert.QuantReference.Facts) (hKernel : Cert.Kernel.Facts) (hKernelIdeal : Cert.KernelIdeal.Facts) (hReferenceIdeal : Cert.ReferenceIdeal.Facts),
    quiescent_Whole (hWhole := hWhole)
    ∧ quiescent_WholeIdeal (hWholeIdeal := hWholeIdeal)
    ∧ quiescent_WholeReferenceIdeal (hWholeReferenceIdeal := hWholeReferenceIdeal)
    ∧ quiescent_Quant (hQuant := hQuant)
    ∧ quiescent_QuantReference (hQuantReference := hQuantReference)
    ∧ quiescent_Kernel (hKernel := hKernel)
    ∧ quiescent_KernelIdeal (hKernelIdeal := hKernelIdeal)
    ∧ quiescent_ReferenceIdeal (hReferenceIdeal := hReferenceIdeal)
    ∧ preserves_Whole_WholeIdeal
    ∧ algebraic_WholeIdeal_WholeReferenceIdeal (hWholeIdeal := hWholeIdeal) (hWholeReferenceIdeal := hWholeReferenceIdeal)
    ∧ bitexact_Quant_QuantReference (hQuant := hQuant) (hQuantReference := hQuantReference)
    ∧ preserves_Kernel_KernelIdeal
    ∧ algebraic_KernelIdeal_ReferenceIdeal (hKernelIdeal := hKernelIdeal) (hReferenceIdeal := hReferenceIdeal)
-- ==== Whole.lean ====
abbrev S2x1024x4096 : Shape := ⟨3, ![2, 1024, 4096]⟩
abbrev S4096x11008 : Shape := ⟨2, ![4096, 11008]⟩
abbrev S11008 : Shape := ⟨1, ![11008]⟩
abbrev S2x1024x1 : Shape := ⟨3, ![2, 1024, 1]⟩
abbrev S1x256x4096 : Shape := ⟨3, ![1, 256, 4096]⟩
abbrev S1x256x1 : Shape := ⟨3, ![1, 256, 1]⟩
abbrev S256x4096 : Shape := ⟨2, ![256, 4096]⟩
abbrev S256 : Shape := ⟨1, ![256]⟩
abbrev S256x1 : Shape := ⟨2, ![256, 1]⟩
abbrev S1x11008 : Shape := ⟨2, ![1, 11008]⟩
abbrev S2x128x8x11008 : Shape := ⟨4, ![2, 128, 8, 11008]⟩
abbrev S1x1024x4096 : Shape := ⟨3, ![1, 1024, 4096]⟩
abbrev S4096x1024 : Shape := ⟨2, ![4096, 1024]⟩
abbrev S1x1024x1 : Shape := ⟨3, ![1, 1024, 1]⟩
abbrev S1x1024 : Shape := ⟨2, ![1, 1024]⟩
abbrev S1x128x8x1024 : Shape := ⟨4, ![1, 128, 8, 1024]⟩
abbrev S1024x4096 : Shape := ⟨2, ![1024, 4096]⟩
abbrev S1024x1024 : Shape := ⟨2, ![1024, 1024]⟩
abbrev S1024x1 : Shape := ⟨2, ![1024, 1]⟩
abbrev S128x8x1024 : Shape := ⟨3, ![128, 8, 1024]⟩

abbrev nBuf : Space → Nat
  | .hbm => 7
  | .vmem => 16
  | .smem => 0
  | _ => 0

abbrev bufTy : (tb : Table) → Fin (tcTables nBuf tb) → BufTy
  | .hbm, ⟨0, _⟩ => ⟨S2x1024x4096, .bf16⟩
  | .hbm, ⟨1, _⟩ => ⟨S4096x11008, .fp8e4m3⟩
  | .hbm, ⟨2, _⟩ => ⟨S11008, .f32⟩
  | .hbm, ⟨3, _⟩ => ⟨S2x1024x4096, .fp8e4m3⟩
  | .hbm, ⟨4, _⟩ => ⟨S2x1024x1, .f32⟩
  | .hbm, ⟨5, _⟩ => ⟨S1x11008, .f32⟩
  | .hbm, ⟨6, _⟩ => ⟨S2x128x8x11008, .bf16⟩
  | .local _ .vmem, ⟨0, _⟩ => ⟨S1x256x4096, .bf16⟩
  | .local _ .vmem, ⟨1, _⟩ => ⟨S1x256x4096, .bf16⟩
  | .local _ .vmem, ⟨2, _⟩ => ⟨S1x256x4096, .fp8e4m3⟩
  | .local _ .vmem, ⟨3, _⟩ => ⟨S1x256x4096, .fp8e4m3⟩
  | .local _ .vmem, ⟨4, _⟩ => ⟨S1x256x1, .f32⟩
  | .local _ .vmem, ⟨5, _⟩ => ⟨S1x256x1, .f32⟩
  | .local _ .vmem, ⟨6, _⟩ => ⟨S1x1024x4096, .fp8e4m3⟩
  | .local _ .vmem, ⟨7, _⟩ => ⟨S1x1024x4096, .fp8e4m3⟩
  | .local _ .vmem, ⟨8, _⟩ => ⟨S4096x1024, .fp8e4m3⟩
  | .local _ .vmem, ⟨9, _⟩ => ⟨S4096x1024, .fp8e4m3⟩
  | .local _ .vmem, ⟨10, _⟩ => ⟨S1x1024x1, .f32⟩
  | .local _ .vmem, ⟨11, _⟩ => ⟨S1x1024x1, .f32⟩
  | .local _ .vmem, ⟨12, _⟩ => ⟨S1x1024, .f32⟩
  | .local _ .vmem, ⟨13, _⟩ => ⟨S1x1024, .f32⟩
  | .local _ .vmem, ⟨14, _⟩ => ⟨S1x128x8x1024, .bf16⟩
  | .local _ .vmem, ⟨15, _⟩ => ⟨S1x128x8x1024, .bf16⟩
  | _, _ => ⟨S2x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 11], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage1_0 : Fin 2 → Memref sig .tc .vmem S1x1024x4096 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x128x8x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== WholeReferenceIdeal.lean ====
abbrev S2x1024x4096 : Shape := ⟨3, ![2, 1024, 4096]⟩
abbrev S4096x11008 : Shape := ⟨2, ![4096, 11008]⟩
abbrev S11008 : Shape := ⟨1, ![11008]⟩
abbrev S2x128x8x11008 : Shape := ⟨4, ![2, 128, 8, 11008]⟩
abbrev S2x1024x1 : Shape := ⟨3, ![2, 1024, 1]⟩
abbrev S2x1024 : Shape := ⟨2, ![2, 1024]⟩
abbrev S1x1x253 : Shape := ⟨3, ![1, 1, 253]⟩
abbrev S2x1024x253 : Shape := ⟨3, ![2, 1024, 253]⟩
abbrev S2x1024x11008 : Shape := ⟨3, ![2, 1024, 11008]⟩
abbrev S1x1x11008 : Shape := ⟨3, ![1, 1, 11008]⟩

abbrev nBuf : Space → Nat
  | .hbm => 6
  | .vmem => 6
  | .smem => 0
  | _ => 0

abbrev bufTy : (tb : Table) → Fin (tcTables nBuf tb) → BufTy
  | .hbm, ⟨0, _⟩ => ⟨S2x1024x4096, .bf16⟩
  | .hbm, ⟨1, _⟩ => ⟨S4096x11008, .fp8e4m3⟩
  | .hbm, ⟨2, _⟩ => ⟨S11008, .f32⟩
  | .hbm, ⟨3, _⟩ => ⟨S2x128x8x11008, .bf16⟩
  | .hbm, ⟨4, _⟩ => ⟨S2x1024x4096, .fp8e4m3⟩
  | .hbm, ⟨5, _⟩ => ⟨S2x1024x1, .f32⟩
  | .local _ .vmem, ⟨0, _⟩ => ⟨S2x1024x4096, .bf16⟩
  | .local _ .vmem, ⟨1, _⟩ => ⟨S4096x11008, .fp8e4m3⟩
  | .local _ .vmem, ⟨2, _⟩ => ⟨S11008, .f32⟩
  | .local _ .vmem, ⟨3, _⟩ => ⟨S2x128x8x11008, .bf16⟩
  | .local _ .vmem, ⟨4, _⟩ => ⟨S2x1024x4096, .fp8e4m3⟩
  | .local _ .vmem, ⟨5, _⟩ => ⟨S2x1024x1, .f32⟩
  | _, _ => ⟨S2x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x11008 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11008 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8x11008 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Quant.lean ====
abbrev S2x1024x4096 : Shape := ⟨3, ![2, 1024, 4096]⟩
abbrev S2x1024x1 : Shape := ⟨3, ![2, 1024, 1]⟩
abbrev S1x256x4096 : Shape := ⟨3, ![1, 256, 4096]⟩
abbrev S1x256x1 : Shape := ⟨3, ![1, 256, 1]⟩
abbrev S256x4096 : Shape := ⟨2, ![256, 4096]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S2x1024x4096, .bf16⟩
  | .hbm, ⟨1, _⟩ => ⟨S2x1024x4096, .fp8e4m3⟩
  | .hbm, ⟨2, _⟩ => ⟨S2x1024x1, .f32⟩
  | .local _ .vmem, ⟨0, _⟩ => ⟨S1x256x4096, .bf16⟩
  | .local _ .vmem, ⟨1, _⟩ => ⟨S1x256x4096, .bf16⟩
  | .local _ .vmem, ⟨2, _⟩ => ⟨S1x256x4096, .fp8e4m3⟩
  | .local _ .vmem, ⟨3, _⟩ => ⟨S1x256x4096, .fp8e4m3⟩
  | .local _ .vmem, ⟨4, _⟩ => ⟨S1x256x1, .f32⟩
  | .local _ .vmem, ⟨5, _⟩ => ⟨S1x256x1, .f32⟩
  | _, _ => ⟨S2x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QuantReference.lean ====
abbrev S2x1024x4096 : Shape := ⟨3, ![2, 1024, 4096]⟩
abbrev S2x1024x1 : Shape := ⟨3, ![2, 1024, 1]⟩
abbrev S2x1024 : Shape := ⟨2, ![2, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2x1024x4096, .bf16⟩
  | .hbm, ⟨1, _⟩ => ⟨S2x1024x4096, .fp8e4m3⟩
  | .hbm, ⟨2, _⟩ => ⟨S2x1024x1, .f32⟩
  | .local _ .vmem, ⟨0, _⟩ => ⟨S2x1024x4096, .bf16⟩
  | .local _ .vmem, ⟨1, _⟩ => ⟨S2x1024x4096, .fp8e4m3⟩
  | .local _ .vmem, ⟨2, _⟩ => ⟨S2x1024x1, .f32⟩
  | _, _ => ⟨S2x1024x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

abbrev stage0_0 : Fin 1 → Memref sig .tc .vmem S2x1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Kernel.lean ====
abbrev S2x1024x4096 : Shape := ⟨3, ![2, 1024, 4096]⟩
abbrev S4096x11008 : Shape := ⟨2, ![4096, 11008]⟩
abbrev S2x1024x1 : Shape := ⟨3, ![2, 1024, 1]⟩
abbrev S11008 : Shape := ⟨1, ![11008]⟩
abbrev S1x11008 : Shape := ⟨2, ![1, 11008]⟩
abbrev S2x128x8x11008 : Shape := ⟨4, ![2, 128, 8, 11008]⟩
abbrev S1x1024x4096 : Shape := ⟨3, ![1, 1024, 4096]⟩
abbrev S4096x1024 : Shape := ⟨2, ![4096, 1024]⟩
abbrev S1x1024x1 : Shape := ⟨3, ![1, 1024, 1]⟩
abbrev S1x1024 : Shape := ⟨2, ![1, 1024]⟩
abbrev S1x128x8x1024 : Shape := ⟨4, ![1, 128, 8, 1024]⟩
abbrev S1024x4096 : Shape := ⟨2, ![1024, 4096]⟩
abbrev S1024x1024 : Shape := ⟨2, ![1024, 1024]⟩
abbrev S1024x1 : Shape := ⟨2, ![1024, 1]⟩
abbrev S128x8x1024 : Shape := ⟨3, ![128, 8, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2x1024x4096, .fp8e4m3⟩
  | .hbm, ⟨1, _⟩ => ⟨S4096x11008, .fp8e4m3⟩
  | .hbm, ⟨2, _⟩ => ⟨S2x1024x1, .f32⟩
  | .hbm, ⟨3, _⟩ => ⟨S11008, .f32⟩
  | .hbm, ⟨4, _⟩ => ⟨S1x11008, .f32⟩
  | .hbm, ⟨5, _⟩ => ⟨S2x128x8x11008, .bf16⟩
  | .local _ .vmem, ⟨0, _⟩ => ⟨S1x1024x4096, .fp8e4m3⟩
  | .local _ .vmem, ⟨1, _⟩ => ⟨S1x1024x4096, .fp8e4m3⟩
  | .local _ .vmem, ⟨2, _⟩ => ⟨S4096x1024, .fp8e4m3⟩
  | .local _ .vmem, ⟨3, _⟩ => ⟨S4096x1024, .fp8e4m3⟩
  | .local _ .vmem, ⟨4, _⟩ => ⟨S1x1024x1, .f32⟩
  | .local _ .vmem, ⟨5, _⟩ => ⟨S1x1024x1, .f32⟩
  | .local _ .vmem, ⟨6, _⟩ => ⟨S1x1024, .f32⟩
  | .local _ .vmem, ⟨7, _⟩ => ⟨S1x1024, .f32⟩
  | .local _ .vmem, ⟨8, _⟩ => ⟨S1x128x8x1024, .bf16⟩
  | .local _ .vmem, ⟨9, _⟩ => ⟨S1x128x8x1024, .bf16⟩
  | _, _ => ⟨S2x1024x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1024x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x1024x4096 : Shape := ⟨3, ![2, 1024, 4096]⟩
abbrev S4096x11008 : Shape := ⟨2, ![4096, 11008]⟩
abbrev S2x1024x1 : Shape := ⟨3, ![2, 1024, 1]⟩
abbrev S11008 : Shape := ⟨1, ![11008]⟩
abbrev S2x128x8x11008 : Shape := ⟨4, ![2, 128, 8, 11008]⟩
abbrev S2x1024x11008 : Shape := ⟨3, ![2, 1024, 11008]⟩
abbrev S1x1x11008 : Shape := ⟨3, ![1, 1, 11008]⟩

abbrev nBuf : Space → Nat
  | .hbm => 5
  | .vmem => 5
  | .smem => 0
  | _ => 0

abbrev bufTy : (tb : Table) → Fin (tcTables nBuf tb) → BufTy
  | .hbm, ⟨0, _⟩ => ⟨S2x1024x4096, .fp8e4m3⟩
  | .hbm, ⟨1, _⟩ => ⟨S4096x11008, .fp8e4m3⟩
  | .hbm, ⟨2, _⟩ => ⟨S2x1024x1, .f32⟩
  | .hbm, ⟨3, _⟩ => ⟨S11008, .f32⟩
  | .hbm, ⟨4, _⟩ => ⟨S2x128x8x11008, .bf16⟩
  | .local _ .vmem, ⟨0, _⟩ => ⟨S2x1024x4096, .fp8e4m3⟩
  | .local _ .vmem, ⟨1, _⟩ => ⟨S4096x11008, .fp8e4m3⟩
  | .local _ .vmem, ⟨2, _⟩ => ⟨S2x1024x1, .f32⟩
  | .local _ .vmem, ⟨3, _⟩ => ⟨S11008, .f32⟩
  | .local _ .vmem, ⟨4, _⟩ => ⟨S2x128x8x11008, .bf16⟩
  | _, _ => ⟨S2x1024x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x1024x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x11008 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11008 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x8x11008 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelTile.lean ====
/-
  The multiplication's call `Kernel`: its body run at a grid point, the proof data, and the frame.

  The weights and their scales are taken in blocks of 1024 columns, eleven to the 11008, so the last block of each
  overhangs its array by 256 columns and the staging buffers hold unnamed words there: the two windows are stated on
  the columns inside the array only. What the body leaves in the result's buffer is not needed for the frame, and at the
  bit level the product's words past the edge may be anything: the result's window is left open here (`θ_run_frame_forget`).
-/
module

public import proofs.«01_k».proof.Proof.Gen.Kernel.Frame
public import proofs.«01_k».proof.Proof.Gen.Kernel.Skeleton
public import Idealize.ShloMosaic.Lib.Pipeline.Value

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

abbrev r0_0 : Rect S1x1024x4096 := Rect.unit (s := S1x1024x4096) ![0, 0, 0] S1x1024x4096.size inb_S1x1024x4096_S1x1024x4096_0_0_0
abbrev r0_1 : Rect S4096x1024 := Rect.unit (s := S4096x1024) ![0, 0] S4096x1024.size inb_S4096x1024_S4096x1024_0_0
abbrev r0_2 : Rect S1x1024x1 := Rect.unit (s := S1x1024x1) ![0, 0, 0] S1x1024x1.size inb_S1x1024x1_S1x1024x1_0_0_0
abbrev r0_3 : Rect S1x1024 := Rect.unit (s := S1x1024) ![0, 0] S1x1024.size inb_S1x1024_S1x1024_0_0
abbrev r0_4 : Rect S1x128x8x1024 := Rect.unit (s := S1x128x8x1024) ![0, 0, 0, 0] S1x128x8x1024.size inb_S1x128x8x1024_S1x128x8x1024_0_0_0_0

/-- What the body leaves in the result's staging buffer, from the contents of the four operands' buffers. -/
def out (x0 : Vec F S1x1024x4096 .fp8e4m3) (x1 : Vec F S4096x1024 .fp8e4m3) (x2 : Vec F S1x1024x1 .f32) (x3 : Vec F S1x1024 .f32) :
    Vec F S1x128x8x1024 .bf16 :=
  View.canon [⟨r0_4, k0_pay1 (View.ld x0 r0_0) (View.ld x1 r0_1) (View.ld x2 r0_2) (View.ld x3 r0_3)⟩]

/-- The one store covers the buffer. -/
theorem cover (p0 : Vec F S1x128x8x1024 .bf16) (y : S1x128x8x1024.Idx) :
    ∃ pc ∈ ([⟨r0_4, p0⟩] : List (View.Piece (Elt F) S1x128x8x1024 .bf16)), y ∈ pc.1.set :=
  View.cover_of_tiled [⟨r0_4, p0⟩] S1x128x8x1024.size (by rfl) y

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The loads read whole buffers and the store writes a whole one, so it is the payload of the buffers' contents. -/
theorem out_eq (x0 : Vec F S1x1024x4096 .fp8e4m3) (x1 : Vec F S4096x1024 .fp8e4m3) (x2 : Vec F S1x1024x1 .f32) (x3 : Vec F S1x1024 .f32) :
    out x0 x1 x2 x3 = k0_pay1 x0 x1 x2 x3 := by
  unfold out
  rw [View.canon_unit_zero hz4, View.ld_unit_zero (S := S1x1024x4096) hz3 _ x0, View.ld_unit_zero (S := S4096x1024) hz2 _ x1,
    View.ld_unit_zero (S := S1x1024x1) hz3 _ x2, View.ld_unit_zero (S := S1x1024) hz2 _ x3]

set_option maxHeartbeats 1000000 in
/-- The body on whole staging buffers, the operands' at contents `xW` and the result's at anything: the operands' end as
    they were and the result's at `out` of them. -/
theorem sound_kernel (c : Dev nD) (E : Set ℕ) (i : grid0.Coords) (arg2 : Memref sig .tc .vmem S1x1024x4096 .fp8e4m3) (harg2 : arg2.IsWhole)
    (arg3 : Memref sig .tc .vmem S4096x1024 .fp8e4m3) (harg3 : arg3.IsWhole) (arg4 : Memref sig .tc .vmem S1x1024x1 .f32) (harg4 : arg4.IsWhole)
    (arg5 : Memref sig .tc .vmem S1x1024 .f32) (harg5 : arg5.IsWhole) (arg6 : Memref sig .tc .vmem S1x128x8x1024 .bf16) (harg6 : arg6.IsWhole)
    (x0 : Vec F S1x1024x4096 .fp8e4m3) (x1 : Vec F S4096x1024 .fp8e4m3) (x2 : Vec F S1x1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out x0 x1 x2 x3)) -∗ K ⟨⟩))
      ⊢ wp frame (wpE (defs₀ (F := F)) Variants.none c none) E (cc0_fp8_matmul i arg2 harg2 arg3 harg3 arg4 harg4 arg5 harg5 arg6 harg6) K := by
  simp only [cc0_fp8_matmul_eq_skeleton]; unfold cc0_fp8_matmul_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-! ## The proof data -/

/-- The weights' block at point `t`, filled out past the array's edge with zeros (nothing reads the filler). -/
def wblk (c : Dev nD) (t : Fin cfg0.N) : Vec F S4096x1024 .fp8e4m3 :=
  win0_1.fill (grid0.coords t) (fun _ => Scalar.ofBits .fp8e4m3 0#8) (iblk m c 1 t)
/-- The weight scales' block likewise. -/
def sblk (c : Dev nD) (t : Fin cfg0.N) : Vec F S1x1024 .f32 :=
  win0_3.fill (grid0.coords t) (fun _ => Scalar.ofBits .f32 0#32) (iblk m c 3 t)

/-- The proof data on core `c`: the arrays as the region finds them; after the body each operand's buffer at its block
    and the result's at `out` of the blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => iblk m c 2 t
    | ⟨3, _⟩ => sblk m c t
    | ⟨4, _⟩ => out (iblk m c 0 t) (wblk m c t) (iblk m c 2 t) (sblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = wblk m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = sblk m c t := by dsimp only [dats]
theorem after_4 (c : Dev nD) (t : Fin cfg0.N) :
    (dats m 0 c).after 4 t = out (iblk m c 0 t) (wblk m c t) (iblk m c 2 t) (sblk m c t) := by dsimp only [dats]

/-- What the body finds: the codes' and their scales' buffers at their blocks, -/
theorem before_0 (c : Dev nD) (t : Fin cfg0.N) (d) : (dats m 0 c).before 0 t d = iblk m c 0 t :=
  before0_0_of m (dats m 0 c) (A_eq m c 0) (after_0 m c) t d
theorem before_2 (c : Dev nD) (t : Fin cfg0.N) (d) : (dats m 0 c).before 2 t d = iblk m c 2 t :=
  before0_2_of m (dats m 0 c) (A_eq m c 2) (after_2 m c) t d
/-- the weights' and their scales' just fetched: the block on the columns inside the array, `d` elsewhere. -/
theorem before_1 (c : Dev nD) (t : Fin cfg0.N) (d) :
    (dats m 0 c).before 1 t d = win0_1.fill (grid0.coords t) d (iblk m c 1 t) := by
  unfold Dat.before; rw [if_pos (fetch0_1 t)]; rfl
theorem before_3 (c : Dev nD) (t : Fin cfg0.N) (d) :
    (dats m 0 c).before 3 t d = win0_3.fill (grid0.coords t) d (iblk m c 3 t) := by
  unfold Dat.before; rw [if_pos (fetch0_3 t)]; rfl

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The body at a point, the result's buffer taken back at whatever it holds: the operands' buffers come back holding what
    they held, which on the columns inside the arrays is the block. -/
theorem body_run (c : Dev nD) (t : Fin cfg0.N) (d1 : Vec F S4096x1024 .fp8e4m3) (d3 : Vec F S1x1024 .f32) (K : PUnit → sProp 𝕄) :
    iprop(owns (c : Thread nD τ) (st0_0 t) fullShare (iblk m c 0 t)
          ∗ owns (c : Thread nD τ) (st0_1 t) fullShare (win0_1.fill (grid0.coords t) d1 (iblk m c 1 t))
          ∗ owns (c : Thread nD τ) (st0_2 t) fullShare (iblk m c 2 t)
          ∗ owns (c : Thread nD τ) (st0_3 t) fullShare (win0_3.fill (grid0.coords t) d3 (iblk m c 3 t))
          ∗ (∃ d, owns (c : Thread nD τ) (st0_4 t) fullShare d)
        ∗ (iprop(owns (c : Thread nD τ) (st0_0 t) fullShare (iblk m c 0 t)
            ∗ owns (c : Thread nD τ) (st0_1 t) fullShare (win0_1.fill (grid0.coords t) d1 (iblk m c 1 t))
            ∗ owns (c : Thread nD τ) (st0_2 t) fullShare (iblk m c 2 t)
            ∗ owns (c : Thread nD τ) (st0_3 t) fullShare (win0_3.fill (grid0.coords t) d3 (iblk m c 3 t))
            ∗ owns (c : Thread nD τ) (st0_4 t) fullShare (out (iblk m c 0 t) (win0_1.fill (grid0.coords t) d1 (iblk m c 1 t))
                (iblk m c 2 t) (win0_3.fill (grid0.coords t) d3 (iblk m c 3 t)))) -∗ K ⟨⟩))
      ⊢ wp frame (wpE (defs₀ (F := F)) Variants.none c none) Set.univ (bodyAt0 t) K :=
  sound_kernel c Set.univ (grid0.coords t) _ _ _ _ _ _ _ _ _ _ (iblk m c 0 t) (win0_1.fill (grid0.coords t) d1 (iblk m c 1 t))
    (iblk m c 2 t) (win0_3.fill (grid0.coords t) d3 (iblk m c 3 t)) K

/-- The windows left open in the frame: the result's. -/
abbrev fgt : Fin cfg0.W → Bool := fun | ⟨4, _⟩ => true | ⟨_, _⟩ => false

theorem cut_wblk (c : Dev nD) (t : Fin cfg0.N) : win0_1.cut (grid0.coords t) (wblk m c t) = iblk m c 1 t :=
  win0_1.cut_fill _ _ _
theorem cut_sblk (c : Dev nD) (t : Fin cfg0.N) : win0_3.cut (grid0.coords t) (sblk m c t) = iblk m c 3 t :=
  win0_3.cut_fill _ _ _

/-- The body obligation with the result's window left open. -/
theorem body_obligation_forget (c : Dev nD) :
    BodyObligationLoose (dats (F := F) m 0 c) (defs₀ (F := F)) Variants.none () Set.univ fgt := fun t => by
  rw [bigSep_W0, bigSep_W0, defs₀_row]
  simp only [show fgt 0 = false from rfl, show fgt 1 = false from rfl, show fgt 2 = false from rfl, show fgt 3 = false from rfl,
    show fgt 4 = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3]
  iapply (body_run m c t d1 d3 _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  isplitl [H0]
  · rw [after_0 m c t]; iexact H0
  isplitl [H1]
  · iexists d1
    change _ ⊢ owns (c : Thread nD τ) (st0_1 t) fullShare (win0_1.fill (grid0.coords t) d1 (win0_1.cut (grid0.coords t) ((dats m 0 c).after 1 t)))
    rw [after_1 m c t, cut_wblk]
  isplitl [H2]
  · rw [after_2 m c t]; iexact H2
  isplitl [H3]
  · iexists d3
    change _ ⊢ owns (c : Thread nD τ) (st0_3 t) fullShare (win0_3.fill (grid0.coords t) d3 (win0_3.cut (grid0.coords t) ((dats m 0 c).after 3 t)))
    rw [after_3 m c t, cut_sblk]
  iexists _; iexact H4

/-! ## The frame -/

set_option backward.isDefEq.respectTransparency.types false in
set_option maxHeartbeats 800000 in
/-- THE FRAME: from any memory with zero counters every fair execution of the call ends, its four arguments as they were and
    every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have hrun : θ_run defs (onTc (τ := τ) (main (F := F))) (s₀ m ρ)
      (fun r => RDat.FramePost cfg0 (fun c => (dats m 0 c).toRForget fgt) (V m) r ∧ r.2.sem = fun _ => 0) :=
    Pipeline.θ_run_frame_forget (Q' := _) cfgs (dats m) (0 : Fin 1) launch0 defs₀ Variants.none fgt m ρ main
      (hbody := fun c => body_obligation_forget m c) (hshare := fun c => (dats m 0 c).share_full fun _ => rfl)
      (howed := fun _ _ => rfl) (V := V m) (hmain := hmain m Variants.none) (hA := A_eq m) (hΦ := fun _ _ => rfl)
  refine (θ_run defs _ _).mono (fun r h => ⟨fun c => ?_, h.2⟩) hrun
  have hA : ∀ w, ((dats m 0 c).toRForget fgt).A w = V m c (Pipeline.arrRef spec0 w) := fun w => A_eq m c w
  exact ⟨((RDat.FramePost.arr_in h.1 c 0 rfl).trans (hA 0)).trans (V_main_arg0 m c),
    ((RDat.FramePost.arr_in h.1 c 1 rfl).trans (hA 1)).trans (V_main_arg1 m c),
    ((RDat.FramePost.arr_in h.1 c 2 rfl).trans (hA 2)).trans (V_main_arg2 m c),
    ((h.1 c).2 main_arg3 (Pipeline.mem_restRefs_of main_arg3 (by decide) (by decide))).trans (V_main_arg3 m c)⟩

end Cert.Kernel.Hand

end
-- ==== Proof.KernelIdealTile.lean ====
/-
  The multiplication's call `KernelIdeal`: its body run at a grid point, the proof data, and the frame.

  The weights and their scales are taken in blocks of 1024 columns, eleven to the 11008, so the last block of each
  overhangs its array by 256 columns and the staging buffers hold unnamed words there: the two windows are stated on
  the columns inside the array only. What the body leaves in the result's buffer is not needed for the frame, and at the
  bit level the product's words past the edge may be anything: the result's window is left open here (`θ_run_frame_forget`).
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

abbrev r0_0 : Rect S1x1024x4096 := Rect.unit (s := S1x1024x4096) ![0, 0, 0] S1x1024x4096.size inb_S1x1024x4096_S1x1024x4096_0_0_0
abbrev r0_1 : Rect S4096x1024 := Rect.unit (s := S4096x1024) ![0, 0] S4096x1024.size inb_S4096x1024_S4096x1024_0_0
abbrev r0_2 : Rect S1x1024x1 := Rect.unit (s := S1x1024x1) ![0, 0, 0] S1x1024x1.size inb_S1x1024x1_S1x1024x1_0_0_0
abbrev r0_3 : Rect S1x1024 := Rect.unit (s := S1x1024) ![0, 0] S1x1024.size inb_S1x1024_S1x1024_0_0
abbrev r0_4 : Rect S1x128x8x1024 := Rect.unit (s := S1x128x8x1024) ![0, 0, 0, 0] S1x128x8x1024.size inb_S1x128x8x1024_S1x128x8x1024_0_0_0_0

/-- What the body leaves in the result's staging buffer, from the contents of the four operands' buffers. -/
def out (x0 : Vec F S1x1024x4096 .fp8e4m3) (x1 : Vec F S4096x1024 .fp8e4m3) (x2 : Vec F S1x1024x1 .f32) (x3 : Vec F S1x1024 .f32) :
    Vec F S1x128x8x1024 .bf16 :=
  View.canon [⟨r0_4, k0_pay1 (View.ld x0 r0_0) (View.ld x1 r0_1) (View.ld x2 r0_2) (View.ld x3 r0_3)⟩]

/-- The one store covers the buffer. -/
theorem cover (p0 : Vec F S1x128x8x1024 .bf16) (y : S1x128x8x1024.Idx) :
    ∃ pc ∈ ([⟨r0_4, p0⟩] : List (View.Piece (Elt F) S1x128x8x1024 .bf16)), y ∈ pc.1.set :=
  View.cover_of_tiled [⟨r0_4, p0⟩] S1x128x8x1024.size (by rfl) y

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The loads read whole buffers and the store writes a whole one, so it is the payload of the buffers' contents. -/
theorem out_eq (x0 : Vec F S1x1024x4096 .fp8e4m3) (x1 : Vec F S4096x1024 .fp8e4m3) (x2 : Vec F S1x1024x1 .f32) (x3 : Vec F S1x1024 .f32) :
    out x0 x1 x2 x3 = k0_pay1 x0 x1 x2 x3 := by
  unfold out
  rw [View.canon_unit_zero hz4, View.ld_unit_zero (S := S1x1024x4096) hz3 _ x0, View.ld_unit_zero (S := S4096x1024) hz2 _ x1,
    View.ld_unit_zero (S := S1x1024x1) hz3 _ x2, View.ld_unit_zero (S := S1x1024) hz2 _ x3]

set_option maxHeartbeats 1000000 in
/-- The body on whole staging buffers, the operands' at contents `xW` and the result's at anything: the operands' end as
    they were and the result's at `out` of them. -/
theorem sound_kernel (c : Dev nD) (E : Set ℕ) (i : grid0.Coords) (arg2 : Memref sig .tc .vmem S1x1024x4096 .fp8e4m3) (harg2 : arg2.IsWhole)
    (arg3 : Memref sig .tc .vmem S4096x1024 .fp8e4m3) (harg3 : arg3.IsWhole) (arg4 : Memref sig .tc .vmem S1x1024x1 .f32) (harg4 : arg4.IsWhole)
    (arg5 : Memref sig .tc .vmem S1x1024 .f32) (harg5 : arg5.IsWhole) (arg6 : Memref sig .tc .vmem S1x128x8x1024 .bf16) (harg6 : arg6.IsWhole)
    (x0 : Vec F S1x1024x4096 .fp8e4m3) (x1 : Vec F S4096x1024 .fp8e4m3) (x2 : Vec F S1x1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out x0 x1 x2 x3)) -∗ K ⟨⟩))
      ⊢ wp frame (wpE (defs₀ (F := F)) Variants.none c none) E (cc0_fp8_matmul i arg2 harg2 arg3 harg3 arg4 harg4 arg5 harg5 arg6 harg6) K := by
  simp only [cc0_fp8_matmul_eq_skeleton]; unfold cc0_fp8_matmul_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-! ## The proof data -/

/-- The weights' block at point `t`, filled out past the array's edge with zeros (nothing reads the filler). -/
def wblk (c : Dev nD) (t : Fin cfg0.N) : Vec F S4096x1024 .fp8e4m3 :=
  win0_1.fill (grid0.coords t) (fun _ => Scalar.ofBits .fp8e4m3 0#8) (iblk m c 1 t)
/-- The weight scales' block likewise. -/
def sblk (c : Dev nD) (t : Fin cfg0.N) : Vec F S1x1024 .f32 :=
  win0_3.fill (grid0.coords t) (fun _ => Scalar.ofBits .f32 0#32) (iblk m c 3 t)

/-- The proof data on core `c`: the arrays as the region finds them; after the body each operand's buffer at its block
    and the result's at `out` of the blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => iblk m c 2 t
    | ⟨3, _⟩ => sblk m c t
    | ⟨4, _⟩ => out (iblk m c 0 t) (wblk m c t) (iblk m c 2 t) (sblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = wblk m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = sblk m c t := by dsimp only [dats]
theorem after_4 (c : Dev nD) (t : Fin cfg0.N) :
    (dats m 0 c).after 4 t = out (iblk m c 0 t) (wblk m c t) (iblk m c 2 t) (sblk m c t) := by dsimp only [dats]

/-- What the body finds: the codes' and their scales' buffers at their blocks, -/
theorem before_0 (c : Dev nD) (t : Fin cfg0.N) (d) : (dats m 0 c).before 0 t d = iblk m c 0 t :=
  before0_0_of m (dats m 0 c) (A_eq m c 0) (after_0 m c) t d
theorem before_2 (c : Dev nD) (t : Fin cfg0.N) (d) : (dats m 0 c).before 2 t d = iblk m c 2 t :=
  before0_2_of m (dats m 0 c) (A_eq m c 2) (after_2 m c) t d
/-- the weights' and their scales' just fetched: the block on the columns inside the array, `d` elsewhere. -/
theorem before_1 (c : Dev nD) (t : Fin cfg0.N) (d) :
    (dats m 0 c).before 1 t d = win0_1.fill (grid0.coords t) d (iblk m c 1 t) := by
  unfold Dat.before; rw [if_pos (fetch0_1 t)]; rfl
theorem before_3 (c : Dev nD) (t : Fin cfg0.N) (d) :
    (dats m 0 c).before 3 t d = win0_3.fill (grid0.coords t) d (iblk m c 3 t) := by
  unfold Dat.before; rw [if_pos (fetch0_3 t)]; rfl

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The body at a point, the result's buffer taken back at whatever it holds: the operands' buffers come back holding what
    they held, which on the columns inside the arrays is the block. -/
theorem body_run (c : Dev nD) (t : Fin cfg0.N) (d1 : Vec F S4096x1024 .fp8e4m3) (d3 : Vec F S1x1024 .f32) (K : PUnit → sProp 𝕄) :
    iprop(owns (c : Thread nD τ) (st0_0 t) fullShare (iblk m c 0 t)
          ∗ owns (c : Thread nD τ) (st0_1 t) fullShare (win0_1.fill (grid0.coords t) d1 (iblk m c 1 t))
          ∗ owns (c : Thread nD τ) (st0_2 t) fullShare (iblk m c 2 t)
          ∗ owns (c : Thread nD τ) (st0_3 t) fullShare (win0_3.fill (grid0.coords t) d3 (iblk m c 3 t))
          ∗ (∃ d, owns (c : Thread nD τ) (st0_4 t) fullShare d)
        ∗ (iprop(owns (c : Thread nD τ) (st0_0 t) fullShare (iblk m c 0 t)
            ∗ owns (c : Thread nD τ) (st0_1 t) fullShare (win0_1.fill (grid0.coords t) d1 (iblk m c 1 t))
            ∗ owns (c : Thread nD τ) (st0_2 t) fullShare (iblk m c 2 t)
            ∗ owns (c : Thread nD τ) (st0_3 t) fullShare (win0_3.fill (grid0.coords t) d3 (iblk m c 3 t))
            ∗ owns (c : Thread nD τ) (st0_4 t) fullShare (out (iblk m c 0 t) (win0_1.fill (grid0.coords t) d1 (iblk m c 1 t))
                (iblk m c 2 t) (win0_3.fill (grid0.coords t) d3 (iblk m c 3 t)))) -∗ K ⟨⟩))
      ⊢ wp frame (wpE (defs₀ (F := F)) Variants.none c none) Set.univ (bodyAt0 t) K :=
  sound_kernel c Set.univ (grid0.coords t) _ _ _ _ _ _ _ _ _ _ (iblk m c 0 t) (win0_1.fill (grid0.coords t) d1 (iblk m c 1 t))
    (iblk m c 2 t) (win0_3.fill (grid0.coords t) d3 (iblk m c 3 t)) K

/-- The windows left open in the frame: the result's. -/
abbrev fgt : Fin cfg0.W → Bool := fun | ⟨4, _⟩ => true | ⟨_, _⟩ => false

theorem cut_wblk (c : Dev nD) (t : Fin cfg0.N) : win0_1.cut (grid0.coords t) (wblk m c t) = iblk m c 1 t :=
  win0_1.cut_fill _ _ _
theorem cut_sblk (c : Dev nD) (t : Fin cfg0.N) : win0_3.cut (grid0.coords t) (sblk m c t) = iblk m c 3 t :=
  win0_3.cut_fill _ _ _

/-- The body obligation with the result's window left open. -/
theorem body_obligation_forget (c : Dev nD) :
    BodyObligationLoose (dats (F := F) m 0 c) (defs₀ (F := F)) Variants.none () Set.univ fgt := fun t => by
  rw [bigSep_W0, bigSep_W0, defs₀_row]
  simp only [show fgt 0 = false from rfl, show fgt 1 = false from rfl, show fgt 2 = false from rfl, show fgt 3 = false from rfl,
    show fgt 4 = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3]
  iapply (body_run m c t d1 d3 _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  isplitl [H0]
  · rw [after_0 m c t]; iexact H0
  isplitl [H1]
  · iexists d1
    change _ ⊢ owns (c : Thread nD τ) (st0_1 t) fullShare (win0_1.fill (grid0.coords t) d1 (win0_1.cut (grid0.coords t) ((dats m 0 c).after 1 t)))
    rw [after_1 m c t, cut_wblk]
  isplitl [H2]
  · rw [after_2 m c t]; iexact H2
  isplitl [H3]
  · iexists d3
    change _ ⊢ owns (c : Thread nD τ) (st0_3 t) fullShare (win0_3.fill (grid0.coords t) d3 (win0_3.cut (grid0.coords t) ((dats m 0 c).after 3 t)))
    rw [after_3 m c t, cut_sblk]
  iexists _; iexact H4

/-! ## The frame -/

set_option backward.isDefEq.respectTransparency.types false in
set_option maxHeartbeats 800000 in
/-- THE FRAME: from any memory with zero counters every fair execution of the call ends, its four arguments as they were and
    every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have hrun : θ_run defs (onTc (τ := τ) (main (F := F))) (s₀ m ρ)
      (fun r => RDat.FramePost cfg0 (fun c => (dats m 0 c).toRForget fgt) (V m) r ∧ r.2.sem = fun _ => 0) :=
    Pipeline.θ_run_frame_forget (Q' := _) cfgs (dats m) (0 : Fin 1) launch0 defs₀ Variants.none fgt m ρ main
      (hbody := fun c => body_obligation_forget m c) (hshare := fun c => (dats m 0 c).share_full fun _ => rfl)
      (howed := fun _ _ => rfl) (V := V m) (hmain := hmain m Variants.none) (hA := A_eq m) (hΦ := fun _ _ => rfl)
  refine (θ_run defs _ _).mono (fun r h => ⟨fun c => ?_, h.2⟩) hrun
  have hA : ∀ w, ((dats m 0 c).toRForget fgt).A w = V m c (Pipeline.arrRef spec0 w) := fun w => A_eq m c w
  exact ⟨((RDat.FramePost.arr_in h.1 c 0 rfl).trans (hA 0)).trans (V_main_arg0 m c),
    ((RDat.FramePost.arr_in h.1 c 1 rfl).trans (hA 1)).trans (V_main_arg1 m c),
    ((RDat.FramePost.arr_in h.1 c 2 rfl).trans (hA 2)).trans (V_main_arg2 m c),
    ((h.1 c).2 main_arg3 (Pipeline.mem_restRefs_of main_arg3 (by decide) (by decide))).trans (V_main_arg3 m c)⟩

end Cert.KernelIdeal.Hand

end
-- ==== Proof.MatmulValue.lean ====
/-
  The multiplication over the reals: what the call `KernelIdeal` leaves in its result array, and the reference's array,
  both as one sum of products by entry.

  The last block of columns overhangs the arrays by 256. A column of the product reads only that column of the weights
  and of their scales, so the words past the edge reach no column that is written back, and the result's block on the
  columns inside the array is the same whatever they are.
-/
module

public import proofs.«01_k».proof.Proof.KernelIdealTile
public import proofs.«01_k».proof.Proof.Gen.ReferenceIdeal.Value
public import Idealize.ShloMosaic.Lib.ValueIdx
public import Idealize.ShloMosaic.Lib.MatmulPlain
public import Idealize.ShloMosaic.Lib.Pipeline.ValueKit.Geometry

@[expose] public section

set_option maxRecDepth 16384

noncomputable section

open Idealize.ShloMosaic Idealize.ShloMosaic.TcCoe Idealize.ShloMosaic.ValueIdx
open scoped BigOperators

namespace Cert.Product

/-- Row `8 g + s` of a batch, from its tile `g` and its place `s` in the tile. -/
def row (g : Fin 128) (s : Fin 8) : Fin 1024 := ⟨8 * g.val + s.val, by omega⟩

/-- The scaled product at an entry: the row's codes times the column's weights, times the row's scale, times the column's. -/
def G (a0 : FVec Ideal ⟨3, ![2, 1024, 4096]⟩ .fp8e4m3) (a1 : FVec Ideal ⟨2, ![4096, 11008]⟩ .fp8e4m3)
    (a2 : FVec Ideal ⟨3, ![2, 1024, 1]⟩ .f32) (a3 : FVec Ideal ⟨1, ![11008]⟩ .f32) :
    FVec Ideal ⟨4, ![2, 128, 8, 11008]⟩ .bf16 := fun i =>
  (∑ k : Fin 4096, (a0 (ix3 (i 0) (row (i 1) (i 2)) k) : EReal) * a1 (ix2 k (i 3)))
    * a2 (ix3 (i 0) (row (i 1) (i 2)) 0) * a3 (ix1 (i 3))

end Cert.Product

namespace Cert.ReferenceIdeal.Hand

open Cert.ReferenceIdeal Cert.ReferenceIdeal.Gen

/-- The reference's product at an entry. -/
theorem dot_apply (x : FVec Ideal S2x1024x4096 .fp8e4m3) (w : FVec Ideal S4096x11008 .fp8e4m3) (b : Fin 2) (r : Fin 1024) (n : Fin 11008) :
    FloatOps.matmul dot_S2x1024x4096_S4096x11008_S2x1024x11008_2_0_01_1_n_n none x w (constant S2x1024x11008 .f32 0x00000000#32) (ix3 b r n)
      = ∑ k : Fin 4096, (x (ix3 b r k) : EReal) * w (ix2 k n) := by
  rw [Ideal.matmul_constant_zero_apply,
    ← Equiv.sum_comp (contrEquiv1 dot_S2x1024x4096_S4096x11008_S2x1024x11008_2_0_01_1_n_n 4096 rfl rfl).symm]
  refine Finset.sum_congr rfl fun k _ => ?_
  have hk := contrEquiv1_symm_val dot_S2x1024x4096_S4096x11008_S2x1024x11008_2_0_01_1_n_n 4096 rfl rfl k
  refine congrArg₂ (fun p q : EReal => p * q) (congrArg x ?_) (congrArg w ?_)
  · funext a; apply Fin.ext
    match a with
    | ⟨0, _⟩ => rfl
    | ⟨1, _⟩ => rfl
    | ⟨2, _⟩ => exact hk
  · funext a; apply Fin.ext
    match a with
    | ⟨0, _⟩ => exact hk
    | ⟨1, _⟩ => rfl

/-- The reference's array is the scaled product. -/
theorem value (a0 : Vec Ideal S2x1024x4096 .fp8e4m3) (a1 : Vec Ideal S4096x11008 .fp8e4m3) (a2 : Vec Ideal S2x1024x1 .f32)
    (a3 : Vec Ideal S11008 .f32) : k0_pay1 (F := Ideal) a0 a1 a2 a3 = Product.G a0 a1 a2 a3 := by
  funext i
  obtain ⟨b, g, s, n, rfl⟩ : ∃ b g s n, i = ix4 b g s n := ⟨_, _, _, _, eq_ix4 i⟩
  unfold k0_pay1
  rw [shapeCast_apply _ _ (ix4 b g s n) (ix3 b (Product.row g s) n) (by
      rw [Shape.rowMajor_val_three, Shape.rowMajor_val_four]
      show (b.val * 1024 + (8 * g.val + s.val)) * 11008 + n.val = ((b.val * 128 + g.val) * 8 + s.val) * 11008 + n.val
      ring)]
  rw [truncf_apply, mulf_apply, mulf_apply]
  simp only [matmul]
  rw [dot_apply,
    broadcastTo_apply _ _ (ix3 b (Product.row g s) n) (ix3 b (Product.row g s) 0) (fun a => by
      match a with
      | ⟨0, _⟩ => rfl
      | ⟨1, _⟩ => rfl
      | ⟨2, _⟩ => rfl),
    broadcastTo_apply _ _ (ix3 b (Product.row g s) n) (ix3 0 0 n) (fun a => by
      match a with
      | ⟨0, _⟩ => rfl
      | ⟨1, _⟩ => rfl
      | ⟨2, _⟩ => rfl),
    shapeCast_apply _ _ (ix3 0 0 n) (ix1 n) (by
      rw [Shape.rowMajor_val_three, Shape.rowMajor_val_one]; show n.val = (0 * 1 + 0) * 11008 + n.val; omega)]
  rfl

end Cert.ReferenceIdeal.Hand

namespace Cert.KernelIdeal.Hand

open Cert.KernelIdeal Cert.KernelIdeal.Gen

/-- The body's payload at an entry: it reads one row of the codes and one column of the weights. -/
theorem pay_apply (x0 : Vec Ideal S1x1024x4096 .fp8e4m3) (x1 : Vec Ideal S4096x1024 .fp8e4m3) (x2 : Vec Ideal S1x1024x1 .f32)
    (x3 : Vec Ideal S1x1024 .f32) (z : Fin 1) (g : Fin 128) (s : Fin 8) (q : Fin 1024) :
    k0_pay1 (F := Ideal) x0 x1 x2 x3 (ix4 z g s q)
      = (∑ k : Fin 4096, (x0 (ix3 0 (Product.row g s) k) : EReal) * x1 (ix2 k q)) * x2 (ix3 0 (Product.row g s) 0) * x3 (ix2 0 q) := by
  unfold k0_pay1
  rw [shapeCast_apply _ _ (ix4 z g s q) (ix3 g s q) (by
      rw [Shape.rowMajor_val_three, Shape.rowMajor_val_four]
      show (g.val * 8 + s.val) * 1024 + q.val = ((z.val * 128 + g.val) * 8 + s.val) * 1024 + q.val
      omega)]
  rw [truncf_apply, shapeCast_apply _ _ (ix3 g s q) (ix2 (Product.row g s) q) (by
      rw [Shape.rowMajor_val_three, Shape.rowMajor_val_two]
      show (8 * g.val + s.val) * 1024 + q.val = (g.val * 8 + s.val) * 1024 + q.val
      omega)]
  rw [mulf_apply, mulf_apply]
  simp only [matmul]
  rw [show dot_S1024x4096_S4096x1024_S1024x1024_1_0_0_1_n_n = DotDims.plain 1024 4096 1024 from rfl,
    Ideal.matmul_plain_apply, constant_apply, Ideal.ofBits_zero_f32, zero_add,
    broadcastTo_apply _ _ (ix2 (Product.row g s) q) (ix2 (Product.row g s) 0) (fun a => by
      match a with
      | ⟨0, _⟩ => rfl
      | ⟨1, _⟩ => rfl),
    broadcastTo_apply _ _ (ix2 (Product.row g s) q) (ix2 0 q) (fun a => by
      match a with
      | ⟨0, _⟩ => rfl
      | ⟨1, _⟩ => rfl),
    shapeCast_self,
    shapeCast_apply _ _ (ix2 (Product.row g s) 0) (ix3 0 (Product.row g s) 0) (by
      rw [Shape.rowMajor_val_three, Shape.rowMajor_val_two]
      show (0 * 1024 + (Product.row g s).val) * 1 + 0 = (Product.row g s).val * 1 + 0
      omega)]
  refine congrArg (fun a : EReal => a * _ * _) (Finset.sum_congr rfl fun k _ => ?_)
  rw [shapeCast_apply _ _ (ix2 (Product.row g s) k) (ix3 0 (Product.row g s) k) (by
      rw [Shape.rowMajor_val_three, Shape.rowMajor_val_two]
      show (0 * 1024 + (Product.row g s).val) * 4096 + k.val = (Product.row g s).val * 4096 + k.val
      omega)]

/-! ## The blocks at coordinates -/

variable (m : (ℓ : Loc nD τ sig) → Buf (Elt Ideal) ℓ) (ρ : Dev nD → PrngReg)

theorem idx0 : ∀ t : Fin cfg0.N, win0_0.index t = ![t.val / 11, 0, 0] := (by decide +kernel : ∀ t : Fin grid0.N, _)
theorem idx1 : ∀ t : Fin cfg0.N, win0_1.index t = ![0, t.val % 11] := (by decide +kernel : ∀ t : Fin grid0.N, _)
theorem idx2 : ∀ t : Fin cfg0.N, win0_2.index t = ![t.val / 11, 0, 0] := (by decide +kernel : ∀ t : Fin grid0.N, _)
theorem idx3 : ∀ t : Fin cfg0.N, win0_3.index t = ![0, t.val % 11] := (by decide +kernel : ∀ t : Fin grid0.N, _)
theorem idx4 : ∀ t : Fin cfg0.N, win0_4.index t = ![t.val / 11, 0, 0, t.val % 11] := (by decide +kernel : ∀ t : Fin grid0.N, _)

/-- How many of a block's columns lie inside the arrays: the same for the weights, their scales and the result. -/
def cols (t : Fin cfg0.N) : Nat := if t.val % 11 = 10 then 768 else 1024

theorem xsize1 : ∀ t : Fin cfg0.N, win0_1.xsize (grid0.coords t) 0 = 4096 ∧ win0_1.xsize (grid0.coords t) 1 = cols t :=
  (by decide +kernel : ∀ t : Fin grid0.N, _)
theorem xsize3 : ∀ t : Fin cfg0.N, win0_3.xsize (grid0.coords t) 0 = 1 ∧ win0_3.xsize (grid0.coords t) 1 = cols t :=
  (by decide +kernel : ∀ t : Fin grid0.N, _)
theorem xsize4 : ∀ t : Fin cfg0.N, win0_4.xsize (grid0.coords t) 3 = cols t :=
  (by decide +kernel : ∀ t : Fin grid0.N, _)

theorem lt_N (t : Fin cfg0.N) : t.val < 22 := lt_of_lt_of_eq t.isLt (by decide)

/-- The batch and a column of a point's block, in the arrays. -/
def batch (t : Fin cfg0.N) : Fin 2 := ⟨t.val / 11, by have := lt_N t; omega⟩
def col (t : Fin cfg0.N) (q : Fin 1024) (h : q.val < cols t) : Fin 11008 :=
  ⟨t.val % 11 * 1024 + q.val, by unfold cols at h; split at h <;> omega⟩

/-- The host's reshape of the weight scales, at a column. -/
theorem V_scales (c : Dev nD) (n : Fin 11008) : V m c main_v0 (ix2 0 n) = m ((c.tc : Thread nD τ).loc main_arg3) (ix1 n) := by
  have e : V m c main_v0 = shapeCast S1x11008 (m ((c.tc : Thread nD τ).loc main_arg3)) shapeCasts_S11008_S1x11008 := rfl
  rw [e]
  exact shapeCast_apply _ _ (ix2 0 n) (ix1 n) (by
    rw [Shape.rowMajor_val_two, Shape.rowMajor_val_one]; show n.val = 0 * 11008 + n.val; omega)

theorem blk0_apply (c : Dev nD) (t : Fin cfg0.N) (r : Fin 1024) (k : Fin 4096) :
    iblk m c 0 t (ix3 0 r k) = m ((c.tc : Thread nD τ).loc main_arg0) (ix3 (batch t) r k) := by
  show V m c main_arg0 (((cfg0.win 0).blk t).view.emb (ix3 0 r k)) = _
  rw [V_main_arg0]
  refine congrArg _ ?_
  funext a; apply Fin.ext
  match a with
  | ⟨0, _⟩ => show win0_0.index t (0 : Fin 3) * 1 + 1 * 0 = t.val / 11; rw [idx0]; simp
  | ⟨1, _⟩ => show win0_0.index t (1 : Fin 3) * 1024 + 1 * r.val = r.val; rw [idx0]; simp
  | ⟨2, _⟩ => show win0_0.index t (2 : Fin 3) * 4096 + 1 * k.val = k.val; rw [idx0]; simp

theorem blk2_apply (c : Dev nD) (t : Fin cfg0.N) (r : Fin 1024) :
    iblk m c 2 t (ix3 0 r 0) = m ((c.tc : Thread nD τ).loc main_arg2) (ix3 (batch t) r 0) := by
  show V m c main_arg2 (((cfg0.win 2).blk t).view.emb (ix3 0 r 0)) = _
  rw [V_main_arg2]
  refine congrArg _ ?_
  funext a; apply Fin.ext
  match a with
  | ⟨0, _⟩ => show win0_2.index t (0 : Fin 3) * 1 + 1 * 0 = t.val / 11; rw [idx2]; simp
  | ⟨1, _⟩ => show win0_2.index t (1 : Fin 3) * 1024 + 1 * r.val = r.val; rw [idx2]; simp
  | ⟨2, _⟩ => show win0_2.index t (2 : Fin 3) * 1 + 1 * 0 = 0; rw [idx2]; simp

/-- The weights' buffer on a column inside the array holds the weights, whatever filled the rest. -/
theorem fill1_apply (c : Dev nD) (t : Fin cfg0.N) (d : Vec Ideal S4096x1024 .fp8e4m3) (k : Fin 4096) (q : Fin 1024) (h : q.val < cols t) :
    win0_1.fill (grid0.coords t) d (iblk m c 1 t) (ix2 k q) = m ((c.tc : Thread nD τ).loc main_arg1) (ix2 k (col t q h)) := by
  have hm : win0_1.moved (grid0.coords t) (ix2 k q) = true := (win0_1.moved_iff _ _).mpr fun a => by
    match a with
    | ⟨0, _⟩ => exact lt_of_lt_of_eq k.isLt (xsize1 t).1.symm
    | ⟨1, _⟩ => exact lt_of_lt_of_eq h (xsize1 t).2.symm
  unfold Pipeline.Window.fill
  rw [dif_pos hm]
  show V m c main_arg1 (((cfg0.win 1).blk t).view.emb _) = _
  rw [V_main_arg1]
  refine congrArg _ ?_
  funext a; apply Fin.ext
  match a with
  | ⟨0, _⟩ => show win0_1.index t (0 : Fin 2) * 4096 + 1 * k.val = k.val; rw [idx1]; simp
  | ⟨1, _⟩ => show win0_1.index t (1 : Fin 2) * 1024 + 1 * q.val = t.val % 11 * 1024 + q.val; rw [idx1]; simp

/-- Their scales' likewise. -/
theorem fill3_apply (c : Dev nD) (t : Fin cfg0.N) (d : Vec Ideal S1x1024 .f32) (q : Fin 1024) (h : q.val < cols t) :
    win0_3.fill (grid0.coords t) d (iblk m c 3 t) (ix2 0 q) = m ((c.tc : Thread nD τ).loc main_arg3) (ix1 (col t q h)) := by
  have hm : win0_3.moved (grid0.coords t) (ix2 0 q) = true := (win0_3.moved_iff _ _).mpr fun a => by
    match a with
    | ⟨0, _⟩ => exact lt_of_lt_of_eq Nat.zero_lt_one (xsize3 t).1.symm
    | ⟨1, _⟩ => exact lt_of_lt_of_eq h (xsize3 t).2.symm
  unfold Pipeline.Window.fill
  rw [dif_pos hm]
  show V m c main_v0 (((cfg0.win 3).blk t).view.emb _) = _
  rw [← V_scales m c]
  refine congrArg _ ?_
  funext a; apply Fin.ext
  match a with
  | ⟨0, _⟩ => show win0_3.index t (0 : Fin 2) * 1 + 1 * 0 = 0; rw [idx3]; simp
  | ⟨1, _⟩ => show win0_3.index t (1 : Fin 2) * 1024 + 1 * q.val = t.val % 11 * 1024 + q.val; rw [idx3]; simp

/-- The result array: the scaled product of the arguments. -/
abbrev result (c : Dev nD) : Vec Ideal S2x128x8x11008 .bf16 :=
  Product.G (m ((c.tc : Thread nD τ).loc main_arg0)) (m ((c.tc : Thread nD τ).loc main_arg1)) (m ((c.tc : Thread nD τ).loc main_arg2))
    (m ((c.tc : Thread nD τ).loc main_arg3))

/-- The payload on a column inside the array. -/
theorem pay_cols (c : Dev nD) (t : Fin cfg0.N) (d1 : Vec Ideal S4096x1024 .fp8e4m3) (d3 : Vec Ideal S1x1024 .f32)
    (Y : S1x128x8x1024.Idx) (h : (Y 3).val < cols t) :
    k0_pay1 (F := Ideal) (iblk m c 0 t) (win0_1.fill (grid0.coords t) d1 (iblk m c 1 t)) (iblk m c 2 t)
        (win0_3.fill (grid0.coords t) d3 (iblk m c 3 t)) Y
      = result m c (ix4 (batch t) (Y 1) (Y 2) (col t (Y 3) h)) := by
  obtain ⟨z, g, s, q, rfl⟩ : ∃ z g s q, Y = ix4 z g s q := ⟨_, _, _, _, eq_ix4 Y⟩
  have h' : q.val < cols t := h
  rw [pay_apply, blk2_apply, fill3_apply m c t d3 q h']
  refine (congrArg (fun a : EReal => a * _ * _) (Finset.sum_congr rfl fun k _ => ?_)).trans rfl
  rw [blk0_apply, fill1_apply m c t d1 k q h']

/-- What the body leaves in the result's buffer, on the part that is written back, is the block of the scaled product,
    whatever filled the operands' buffers past the edge. -/
theorem out_cut (c : Dev nD) (t : Fin cfg0.N) (d1 : Vec Ideal S4096x1024 .fp8e4m3) (d3 : Vec Ideal S1x1024 .f32)
    (y : (win0_4.xblock (grid0.coords t)).Idx) :
    out (F := Ideal) (iblk m c 0 t) (win0_1.fill (grid0.coords t) d1 (iblk m c 1 t)) (iblk m c 2 t)
        (win0_3.fill (grid0.coords t) d3 (iblk m c 3 t)) (win0_4.xinj (grid0.coords t) y)
      = result m c (((cfg0.win 4).blk t).view.emb y) := by
  have hq : (win0_4.xinj (grid0.coords t) y 3).val < cols t := lt_of_lt_of_eq (y 3).isLt (xsize4 t)
  have he : ((cfg0.win 4).blk t).view.emb y
      = ix4 (batch t) (win0_4.xinj (grid0.coords t) y 1) (win0_4.xinj (grid0.coords t) y 2) (col t (win0_4.xinj (grid0.coords t) y 3) hq) := by
    funext a; apply Fin.ext
    match a with
    | ⟨0, _⟩ =>
      show win0_4.index t (0 : Fin 4) * 1 + 1 * (y 0).val = t.val / 11
      have h0 : (win0_4.xinj (grid0.coords t) y 0).val < 1 := (win0_4.xinj (grid0.coords t) y 0).isLt
      have h0' : (y 0).val = 0 := by have : (win0_4.xinj (grid0.coords t) y 0).val = (y 0).val := rfl; omega
      rw [idx4, h0']; simp
    | ⟨1, _⟩ => show win0_4.index t (1 : Fin 4) * 128 + 1 * (y 1).val = (y 1).val; rw [idx4]; simp
    | ⟨2, _⟩ => show win0_4.index t (2 : Fin 4) * 8 + 1 * (y 2).val = (y 2).val; rw [idx4]; simp
    | ⟨3, _⟩ => show win0_4.index t (3 : Fin 4) * 1024 + 1 * (y 3).val = t.val % 11 * 1024 + (y 3).val; rw [idx4]; simp
  rw [he, out_eq]
  exact pay_cols m c t d1 d3 (win0_4.xinj (grid0.coords t) y) hq

/-! ## The run -/

open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Rounds
open Idealize.ShloMosaic.Pipeline (Dat RDat Cfg Window BodyObligation BodyObligationLoose cellOf)

local notation "𝕄" => MT nD τ sig Unit (Elt Ideal) ℕ (UR sig nD τ) ℕ

/-- So on the part written back the buffer is what the proof data names. -/
theorem cut_out (c : Dev nD) (t : Fin cfg0.N) (d1 : Vec Ideal S4096x1024 .fp8e4m3) (d3 : Vec Ideal S1x1024 .f32) :
    win0_4.cut (grid0.coords t) ((dats (F := Ideal) m 0 c).after 4 t)
      = win0_4.cut (grid0.coords t) (out (F := Ideal) (iblk m c 0 t) (win0_1.fill (grid0.coords t) d1 (iblk m c 1 t)) (iblk m c 2 t)
          (win0_3.fill (grid0.coords t) d3 (iblk m c 3 t))) := by
  rw [after_4 m c t]
  funext y
  exact (out_cut m c t _ _ y).trans (out_cut m c t d1 d3 y).symm

/-- The body obligation, the result's window stated on the columns inside the array. -/
theorem body_obligation (c : Dev nD) :
    BodyObligationLoose (dats (F := Ideal) m 0 c) (defs₀ (F := Ideal)) Variants.none () Set.univ := fun t => by
  rw [bigSep_W0, bigSep_W0, defs₀_row]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3]
  iapply (body_run m c t d1 d3 _)
  isplitl [H0]; · iexact H0
  isplitl [H1]; · iexact H1
  isplitl [H2]; · iexact H2
  isplitl [H3]; · iexact H3
  isplitl [H4]; · iexists ((dats (F := Ideal) m 0 c).before 4 t d4); iexact H4
  iintro ⟨H0, H1, H2, H3, H4⟩
  isplitl [HΦ]; · iexact HΦ
  isplitl [Ho]; · iexact Ho
  isplitl [H0]
  · rw [after_0 m c t]; iexact H0
  isplitl [H1]
  · iexists d1
    change _ ⊢ owns (c : Thread nD τ) (st0_1 t) fullShare (win0_1.fill (grid0.coords t) d1 (win0_1.cut (grid0.coords t) ((dats m 0 c).after 1 t)))
    rw [after_1 m c t, cut_wblk]
  isplitl [H2]
  · rw [after_2 m c t]; iexact H2
  isplitl [H3]
  · iexists d3
    change _ ⊢ owns (c : Thread nD τ) (st0_3 t) fullShare (win0_3.fill (grid0.coords t) d3 (win0_3.cut (grid0.coords t) ((dats m 0 c).after 3 t)))
    rw [after_3 m c t, cut_sblk]
  iexists (out (F := Ideal) (iblk m c 0 t) (win0_1.fill (grid0.coords t) d1 (iblk m c 1 t)) (iblk m c 2 t)
    (win0_3.fill (grid0.coords t) d3 (iblk m c 3 t)))
  change _ ⊢ owns (c : Thread nD τ) (st0_4 t) fullShare (win0_4.fill (grid0.coords t) _ (win0_4.cut (grid0.coords t) ((dats m 0 c).after 4 t)))
  rw [cut_out m c t d1 d3, win0_4.fill_cut]

/-- The result array after the run. -/
theorem final (c : Dev nD) : (dats (F := Ideal) m 0 c).arrAt 4 cfg0.N = result m c := by
  refine (dats m 0 c).arrAt_eq_of_covers 4 (result m c) (by decide +kernel) fun t hf y => ?_
  show (dats (F := Ideal) m 0 c).after 4 t (win0_4.xinj (grid0.coords t) y) = _
  rw [after_4 m c t]
  exact out_cut m c t _ _ y

set_option backward.isDefEq.respectTransparency.types false in
set_option maxHeartbeats 800000 in
/-- The run: the result array ends at the scaled product of the arguments, the arguments as they were. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  have hrun : θ_run defs (onTc (τ := τ) (main (F := Ideal))) (s₀ m ρ)
      (fun r => Pipeline.FramePost cfgs (dats m) 0 (V m) r ∧ r.2.sem = fun _ => 0) :=
    Pipeline.θ_run_frame (Q' := _) cfgs (dats m) (0 : Fin 1) launch0 defs₀ Variants.none m ρ main
      (hbody := fun c => body_obligation m c) (hshare := fun c => (dats m 0 c).share_full fun _ => rfl)
      (howed := fun _ _ => rfl) (V := V m) (hmain := hmain m Variants.none) (hA := A_eq m) (hΦ := fun _ _ => rfl)
  refine (θ_run defs _ _).mono (fun r h c => ?_) hrun
  have h1 := h.1 c
  exact ⟨(h1.1 4).trans (final m c),
    ((h1.1 0).trans ((dats m 0 c).arrAt_in 0 rfl _)).trans ((A_eq m c 0).trans (V_main_arg0 m c)),
    ((h1.1 1).trans ((dats m 0 c).arrAt_in 1 rfl _)).trans ((A_eq m c 1).trans (V_main_arg1 m c)),
    ((h1.1 2).trans ((dats m 0 c).arrAt_in 2 rfl _)).trans ((A_eq m c 2).trans (V_main_arg2 m c)),
    (h1.2 main_arg3 (Pipeline.mem_restRefs_of main_arg3 (by decide) (by decide))).trans (V_main_arg3 m c)⟩

end Cert.KernelIdeal.Hand

end
-- ==== Proof.QuantValue.lean ====
/-
  The quantiser at the bit level: the call `Quant` and the reference leave the same codes and the same scales.

  Both print the same arithmetic on a row's maximum, at different shapes. Those terms are stated here once, for any shape
  (`frexpV`, `ldexpV`, `codeV`), and an element of them depends on the elements at its own index only; so what is left is
  that a row's maximum in a block of 256 rows is that row's maximum in the whole array, both being the maximum of the
  row's 4096 elements in any order.
-/
module

public import proofs.«01_k».proof.Proof.Gen.Quant.Frame
public import proofs.«01_k».proof.Proof.Gen.QuantReference.Frame
public import Idealize.ShloMosaic.PureOps.BitExact.Laws
public import Idealize.ShloMosaic.Lib.ValueIdxCore
public import Idealize.ShloMosaic.Lib.Pipeline.ValueKit.Geometry

@[expose] public section

set_option maxRecDepth 16384

noncomputable section

open Idealize.ShloMosaic Idealize.ShloMosaic.TcCoe Idealize.ShloMosaic.ValueIdx

namespace Cert.Quantiser

variable {F : FTy → Type} [BitOps F]

/-! ## The quantiser's arithmetic, at any shape -/

/-- The bits of `v`, a subnormal's replaced by its zero's. -/
def bitsV (s : Shape) (v : FVec F s .f32) : IVec s 32 :=
  bitcastToInt (bitcastToFloat (F := F) .f32 (select (cmpi .eq (andi (bitcastToInt v) (broadcast s 2139095040#32)) (broadcast s 0#32))
    (andi (bitcastToInt v) (broadcast s 2147483648#32)) (bitcastToInt v)))

/-- The exponent field of the bits `b`. -/
def fieldV (s : Shape) (b : IVec s 32) : IVec s 32 := andi (shrui b (broadcast s 23#32)) (broadcast s 255#32)

/-- The exponent `frexp` gives `amax / 448`, and zero where the maximum is not positive. -/
def frexpV (s : Shape) (amax : FVec F s .f32) : IVec s 32 :=
  select (cmpf .ogt amax (broadcast s (Scalar.ofBits .f32 0x00000000#32)))
    (select (ori (cmpi .eq (fieldV s (bitsV s (mulf amax (broadcast s (Scalar.ofBits .f32 0x3B124925#32))))) (broadcast s 255#32))
        (cmpi .eq (fieldV s (bitsV s (mulf amax (broadcast s (Scalar.ofBits .f32 0x3B124925#32))))) (broadcast s 0#32)))
      (broadcast s 0#32)
      (subi (fieldV s (bitsV s (mulf amax (broadcast s (Scalar.ofBits .f32 0x3B124925#32))))) (broadcast s 126#32)))
    (broadcast s 0#32)

/-- The bits of one. -/
def oneV (F : FTy → Type) [BitOps F] (s : Shape) : IVec s 32 := bitsV (F := F) s (broadcast s (Scalar.ofBits .f32 0x3F800000#32))

/-- The exponent field of `ldexp(1, k)`, before it is cut to the format's range. -/
def shiftV (F : FTy → Type) [BitOps F] (s : Shape) (k : IVec s 32) : IVec s 32 :=
  addi (fieldV s (oneV F s)) (minsi (maxsi k (broadcast s 4294966784#32)) (broadcast s 512#32))

/-- The sign of one. -/
def signV (F : FTy → Type) [BitOps F] (s : Shape) : IVec s 32 := andi (oneV F s) (broadcast s 2147483648#32)

/-- `ldexp(1, k)`. -/
def ldexpV (s : Shape) (k : IVec s 32) : FVec F s .f32 :=
  bitcastToFloat .f32 (select (cmpi .eq (fieldV s (oneV F s)) (broadcast s 255#32)) (oneV F s)
    (select (cmpi .eq (fieldV s (oneV F s)) (broadcast s 0#32)) (signV F s)
      (select (cmpi .sle (shiftV F s k) (broadcast s 0#32)) (signV F s)
        (select (cmpi .sge (shiftV F s k) (broadcast s 255#32)) (ori (signV F s) (broadcast s 2139095040#32))
          (ori (ori (signV F s) (shli (shiftV F s k) (broadcast s 23#32))) (andi (oneV F s) (broadcast s 8388607#32)))))))

/-- The scale of a row from its maximum, and its reciprocal. -/
def scaleV (s : Shape) (amax : FVec F s .f32) : FVec F s .f32 := ldexpV s (frexpV s amax)
def invV (s : Shape) (amax : FVec F s .f32) : FVec F s .f32 := ldexpV s (subi (broadcast s 0#32) (frexpV s amax))

/-- The code of an element times its row's reciprocal scale. -/
def codeV (s : Shape) (x : FVec F s .f32) (inv : FVec F s .f32) : FVec F s .fp8e4m3 :=
  truncf .fp8e4m3 (minimumf (broadcast s (Scalar.ofBits .f32 0x43E00000#32))
    (maximumf (broadcast s (Scalar.ofBits .f32 0xC3E00000#32)) (mulf x inv))) (by decide)

/-- The same of one element. -/
def scale1 (a : F .f32) : F .f32 := scaleV ⟨0, ![]⟩ (fun _ => a) ix0
def inv1 (a : F .f32) : F .f32 := invV ⟨0, ![]⟩ (fun _ => a) ix0
def code1 (x : F .bf16) (a : F .f32) : F .fp8e4m3 :=
  codeV ⟨0, ![]⟩ (extf .f32 (fun _ => x : FVec F ⟨0, ![]⟩ .bf16) (by decide)) (fun _ => inv1 a) ix0

theorem scaleV_apply (s : Shape) (amax : FVec F s .f32) (i : s.Idx) : scaleV s amax i = scale1 (amax i) := rfl
theorem invV_apply (s : Shape) (amax : FVec F s .f32) (i : s.Idx) : invV s amax i = inv1 (amax i) := rfl
theorem codeV_apply (s : Shape) (x : FVec F s .bf16) (h) (inv : FVec F s .f32) (i : s.Idx) (a : F .f32) (e : inv i = inv1 a) :
    codeV s (extf .f32 x h) inv i = code1 (x i) a := by
  unfold code1; rw [← e]; rfl

/-- The largest magnitude of a row. -/
def rowMax (f : Fin 4096 → Bits .bf16) : Bits .f32 :=
  (Finset.univ : Finset (Fin 4096)).fold FloatOps.maximumf (FloatOps.ofBits .f32 0xFF800000#32)
    fun k => absf (extf .f32 (fun _ => f k : FVec Bits ⟨0, ![]⟩ .bf16) (by decide)) ix0

/-- The codes and the scales of the whole array. -/
def codes (a : FVec Bits ⟨3, ![2, 1024, 4096]⟩ .bf16) : FVec Bits ⟨3, ![2, 1024, 4096]⟩ .fp8e4m3 := fun i =>
  code1 (a i) (rowMax fun k => a (ix3 (i 0) (i 1) k))
def scales (a : FVec Bits ⟨3, ![2, 1024, 4096]⟩ .bf16) : FVec Bits ⟨3, ![2, 1024, 1]⟩ .f32 := fun i =>
  scale1 (rowMax fun k => a (ix3 (i 0) (i 1) k))

end Cert.Quantiser

namespace Cert.QuantReference.Hand

open Cert.QuantReference Cert.QuantReference.Gen Cert.Quantiser

/-- The reference's row maximum. -/
theorem max_apply (a0 : Vec Bits S2x1024x4096 .bf16) (b : Fin 2) (r : Fin 1024) (z : Fin 1) :
    k0_pay3 (F := Bits) a0 (ix3 b r z) = rowMax fun k => a0 (ix3 b r k) := by
  unfold k0_pay3
  rw [shapeCast_apply _ _ (ix3 b r z) (ix2 b r) (by
      rw [Shape.rowMajor_val_three, Shape.rowMajor_val_two]
      show b.val * 1024 + r.val = (b.val * 1024 + r.val) * 1 + z.val
      omega)]
  refine (multiReduction_maximumf_eq_fold _ _ _ _ _ _).trans ?_
  refine (Shape.Reduces.fold_filter_drop_single reduces_S2x1024x4096_S2x1024 _ _ _ (ix2 b r)).trans ?_
  unfold rowMax
  refine congrArg (fun f => (Finset.univ : Finset (Fin 4096)).fold _ _ f) (funext fun k => ?_)
  have e : reduces_S2x1024x4096_S2x1024.lift (ix2 b r) k = ix3 b r k := by
    funext a; apply Fin.ext
    match a with
    | ⟨0, _⟩ => rfl
    | ⟨1, _⟩ => rfl
    | ⟨2, _⟩ => rfl
  rw [Function.comp_apply, e]
  rfl

variable {F : FTy → Type} [BitOps F]

theorem scale_eq (a0 : Vec F S2x1024x4096 .bf16) :
    (k0_pay11 (F := F)) (k0_pay7 (F := F)) (k0_pay9 (F := F)) (k0_pay10 (F := F) (k0_pay4 (F := F) a0) (k0_pay5 (F := F) a0)) = scaleV S2x1024x1 (k0_pay3 (F := F) a0) := rfl

theorem code_eq (a0 : Vec F S2x1024x4096 .bf16) :
    (k0_pay1 (F := F)) (k0_pay2 (F := F) a0) (k0_pay12 (F := F)) (k0_pay13 (F := F)) (k0_pay15 (F := F)) (k0_pay16 (F := F)) (k0_pay18 (F := F) (k0_pay6 (k0_pay4 (F := F) a0) (k0_pay5 (F := F) a0)))
        (k0_pay19 (F := F) (k0_pay6 (k0_pay4 (F := F) a0) (k0_pay5 (F := F) a0)))
      = codeV S2x1024x4096 (extf .f32 a0 bitsLt_bf16_f32)
          (broadcastTo S2x1024x4096 (invV S2x1024x1 (k0_pay3 (F := F) a0)) broadcasts_S2x1024x1_S2x1024x4096) := rfl

theorem codes_value (a0 : Vec Bits S2x1024x4096 .bf16) :
    codeV S2x1024x4096 (extf .f32 a0 bitsLt_bf16_f32)
        (broadcastTo S2x1024x4096 (invV S2x1024x1 (k0_pay3 a0)) broadcasts_S2x1024x1_S2x1024x4096) = codes a0 := by
  funext i
  obtain ⟨b, r, k, rfl⟩ : ∃ b r k, i = ix3 b r k := ⟨_, _, _, eq_ix3 i⟩
  refine codeV_apply _ _ _ _ _ _ ?_
  rw [broadcastTo_apply _ _ (ix3 b r k) (ix3 b r 0) (fun a => by
      match a with
      | ⟨0, _⟩ => rfl
      | ⟨1, _⟩ => rfl
      | ⟨2, _⟩ => rfl), invV_apply, max_apply]

theorem scales_value (a0 : Vec Bits S2x1024x4096 .bf16) : scaleV S2x1024x1 (k0_pay3 a0) = scales a0 := by
  funext i
  obtain ⟨b, r, z, rfl⟩ : ∃ b r z, i = ix3 b r z := ⟨_, _, _, eq_ix3 i⟩
  rw [scaleV_apply, max_apply]
  rfl

/-! ## The run -/

open Idealize.SL.Sem
open Idealize.ShloMosaic.Pipeline (Dat)

theorem hz3 : (![0, 0, 0] : Fin 3 → Nat) = fun _ => 0 := funext fun a => by fin_cases a <;> rfl

theorem out1_eq (x0 : Vec Bits S2x1024x4096 .bf16) : out0_1 (F := Bits) x0 = codes x0 := by
  unfold out0_1 k0_pay22 k0_pay20 k0_pay21
  rw [View.canon_unit_zero hz3, View.ld_unit_zero (S := S2x1024x4096) hz3 _ x0, code_eq, codes_value]

theorem out2_eq (x0 : Vec Bits S2x1024x4096 .bf16) : out0_2 (F := Bits) x0 = scales x0 := by
  unfold out0_2 k0_pay20 k0_pay21
  rw [View.canon_unit_zero hz3, View.ld_unit_zero (S := S2x1024x4096) hz3 _ x0, scale_eq, scales_value]

variable (m : (ℓ : Loc nD τ sig) → Buf (Elt Bits) ℓ) (ρ : Dev nD → PrngReg)

theorem idx0 : ∀ t : Fin cfg0.N, win0_0.index t = ![0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0, 0] := (by decide +kernel : ∀ t : Fin grid0.N, _)

theorem emb0 (t : Fin cfg0.N) (j : S2x1024x4096.Idx) : ((cfg0.win 0).blk t).view.emb j = j := by
  funext a; apply Fin.ext
  match a with
  | ⟨0, _⟩ => show win0_0.index t (0 : Fin 3) * 2 + 1 * (j 0).val = (j 0).val; rw [idx0]; simp
  | ⟨1, _⟩ => show win0_0.index t (1 : Fin 3) * 1024 + 1 * (j 1).val = (j 1).val; rw [idx0]; simp
  | ⟨2, _⟩ => show win0_0.index t (2 : Fin 3) * 4096 + 1 * (j 2).val = (j 2).val; rw [idx0]; simp
theorem emb1 (t : Fin cfg0.N) (j : S2x1024x4096.Idx) : ((cfg0.win 1).blk t).view.emb j = j := by
  funext a; apply Fin.ext
  match a with
  | ⟨0, _⟩ => show win0_1.index t (0 : Fin 3) * 2 + 1 * (j 0).val = (j 0).val; rw [idx1]; simp
  | ⟨1, _⟩ => show win0_1.index t (1 : Fin 3) * 1024 + 1 * (j 1).val = (j 1).val; rw [idx1]; simp
  | ⟨2, _⟩ => show win0_1.index t (2 : Fin 3) * 4096 + 1 * (j 2).val = (j 2).val; rw [idx1]; simp
theorem emb2 (t : Fin cfg0.N) (j : S2x1024x1.Idx) : ((cfg0.win 2).blk t).view.emb j = j := by
  funext a; apply Fin.ext
  match a with
  | ⟨0, _⟩ => show win0_2.index t (0 : Fin 3) * 2 + 1 * (j 0).val = (j 0).val; rw [idx2]; simp
  | ⟨1, _⟩ => show win0_2.index t (1 : Fin 3) * 1024 + 1 * (j 1).val = (j 1).val; rw [idx2]; simp
  | ⟨2, _⟩ => show win0_2.index t (2 : Fin 3) * 1 + 1 * (j 2).val = (j 2).val; rw [idx2]; simp

theorem blk_eq (c : Dev nD) (t : Fin cfg0.N) : iblk m c 0 t = m ((c.tc : Thread nD τ).loc main_arg0) := by
  funext j
  show V m c main_arg0 (((cfg0.win 0).blk t).view.emb j) = _
  rw [V_main_arg0, emb0]

theorem final1 (c : Dev nD) : (dats (F := Bits) m 0 c).arrAt 1 cfg0.N = codes (m ((c.tc : Thread nD τ).loc main_arg0)) := by
  refine (dats m 0 c).arrAt_eq_of_covers 1 (codes (m ((c.tc : Thread nD τ).loc main_arg0))) (by decide +kernel) fun t hf y => ?_
  rw [emb1 t y]
  show (dats (F := Bits) m 0 c).after 1 t y = _
  rw [after0_1, out1_eq, blk_eq]

theorem final2 (c : Dev nD) : (dats (F := Bits) m 0 c).arrAt 2 cfg0.N = scales (m ((c.tc : Thread nD τ).loc main_arg0)) := by
  refine (dats m 0 c).arrAt_eq_of_covers 2 (scales (m ((c.tc : Thread nD τ).loc main_arg0))) (by decide +kernel) fun t hf y => ?_
  rw [emb2 t y]
  show (dats (F := Bits) m 0 c).after 2 t y = _
  rw [after0_2, out2_eq, blk_eq]

/-- The reference's run: its results end at the codes and the scales, its argument as it was. -/
theorem run : θ_run defs (onTc (τ := τ) (main (F := Bits))) ⟨m, fun _ => 0, ρ⟩ fun r => ∀ c : Dev nD,
      r.2.mem ((c : Thread nD τ).loc main_v0_0) = codes (m ((c : Thread nD τ).loc main_arg0))
      ∧ r.2.mem ((c : Thread nD τ).loc main_v0_1) = scales (m ((c : Thread nD τ).loc main_arg0))
      ∧ r.2.mem ((c : Thread nD τ).loc main_arg0) = m ((c : Thread nD τ).loc main_arg0) :=
  (θ_run defs _ _).mono (fun r h c => ⟨((h c).1 1).trans (final1 m c), ((h c).1 2).trans (final2 m c),
      ((h c).1 0).trans (((dats m 0 c).arrAt_in 0 rfl _).trans ((A_eq m c 0).trans (V_main_arg0 m c)))⟩)
    (run_main m ρ)

end Cert.QuantReference.Hand

namespace Cert.Quant.Hand

open Cert.Quant Cert.Quant.Gen Cert.Quantiser

/-- A block's row maximum. -/
theorem max_apply (x0 : Vec Bits S1x256x4096 .bf16) (r : Fin 256) (z : Fin 1) :
    k0_pay4 (F := Bits) x0 (ix2 r z) = rowMax fun k => x0 (ix3 0 r k) := by
  unfold k0_pay4 k0_pay3
  rw [shapeCast_apply _ _ (ix2 r z) (ix1 r) (by
      rw [Shape.rowMajor_val_two, Shape.rowMajor_val_one]
      show r.val = r.val * 1 + z.val
      omega)]
  refine (multiReduction_maximumf_eq_fold _ _ _ _ _ _).trans ?_
  refine (Shape.Reduces.fold_filter_drop_single reduces_S256x4096_S256 _ _ _ (ix1 r)).trans ?_
  unfold rowMax
  refine congrArg (fun f => (Finset.univ : Finset (Fin 4096)).fold _ _ f) (funext fun k => ?_)
  have e : reduces_S256x4096_S256.lift (ix1 r) k = ix2 r k := by
    funext a; apply Fin.ext
    match a with
    | ⟨0, _⟩ => rfl
    | ⟨1, _⟩ => rfl
  rw [Function.comp_apply, e]
  have e' : shapeCast S256x4096 x0 shapeCasts_S1x256x4096_S256x4096 (ix2 r k) = x0 (ix3 0 r k) :=
    shapeCast_apply _ _ _ _ (by
      rw [Shape.rowMajor_val_three, Shape.rowMajor_val_two]
      show (0 * 256 + r.val) * 4096 + k.val = r.val * 4096 + k.val
      omega)
  exact congrArg (fun v : Bits .bf16 => absf (extf .f32 (fun _ => v : FVec Bits ⟨0, ![]⟩ .bf16) (by decide)) ix0) e'

variable {F : FTy → Type} [BitOps F]

theorem scale_eq (x0 : Vec F S1x256x4096 .bf16) :
    (k0_pay18 (F := F)) (k0_pay8 (F := F)) (k0_pay9 (F := F)) (k0_pay11 (F := F)) (k0_pay12 (F := F)) (k0_pay14 (F := F)) (k0_pay15 (F := F) (k0_pay4 (F := F) x0) (k0_pay5 (F := F) x0)) (k0_pay16 (F := F) (k0_pay4 (F := F) x0) (k0_pay5 (F := F) x0))
        (k0_pay17 (F := F) (k0_pay4 (F := F) x0) (k0_pay5 (F := F) x0))
      = scaleV S256x1 (k0_pay4 (F := F) x0) := rfl

theorem code_eq (x0 : Vec F S1x256x4096 .bf16) :
    (k0_pay1 (F := F)) (k0_pay3 (F := F) x0) (k0_pay19 (F := F) (k0_pay7 (F := F))) (k0_pay20 (F := F) (k0_pay7 (F := F))) (k0_pay22 (F := F) (k0_pay7 (F := F))) (k0_pay23 (F := F) (k0_pay7 (F := F))) (k0_pay25 (F := F) (k0_pay7 (F := F)))
        (k0_pay26 (F := F) (k0_pay6 (F := F) (k0_pay4 (F := F) x0) (k0_pay5 (F := F) x0)) (k0_pay7 (F := F))) (k0_pay27 (F := F) (k0_pay6 (F := F) (k0_pay4 (F := F) x0) (k0_pay5 (F := F) x0)) (k0_pay7 (F := F)))
        (k0_pay28 (F := F) (k0_pay6 (F := F) (k0_pay4 (F := F) x0) (k0_pay5 (F := F) x0)) (k0_pay7 (F := F)))
      = shapeCast S1x256x4096 (codeV S256x4096 (extf .f32 (shapeCast S256x4096 x0 shapeCasts_S1x256x4096_S256x4096) bitsLt_bf16_f32)
          (broadcastTo S256x4096 (invV S256x1 (k0_pay4 (F := F) x0)) broadcasts_S256x1_S256x4096)) shapeCasts_S256x4096_S1x256x4096 := rfl

/-- A block's codes at an entry. -/
theorem codes_apply (x0 : Vec Bits S1x256x4096 .bf16) (z : Fin 1) (r : Fin 256) (k : Fin 4096) :
    shapeCast S1x256x4096 (codeV S256x4096 (extf .f32 (shapeCast S256x4096 x0 shapeCasts_S1x256x4096_S256x4096) bitsLt_bf16_f32)
        (broadcastTo S256x4096 (invV S256x1 (k0_pay4 x0)) broadcasts_S256x1_S256x4096)) shapeCasts_S256x4096_S1x256x4096 (ix3 z r k)
      = code1 (x0 (ix3 0 r k)) (rowMax fun k => x0 (ix3 0 r k)) := by
  rw [shapeCast_apply _ shapeCasts_S256x4096_S1x256x4096 (ix3 z r k) (ix2 r k) (by
      rw [Shape.rowMajor_val_three, Shape.rowMajor_val_two]
      show r.val * 4096 + k.val = (z.val * 256 + r.val) * 4096 + k.val
      omega)]
  have e' : shapeCast S256x4096 x0 shapeCasts_S1x256x4096_S256x4096 (ix2 r k) = x0 (ix3 0 r k) :=
    shapeCast_apply _ _ _ _ (by
      rw [Shape.rowMajor_val_three, Shape.rowMajor_val_two]
      show (0 * 256 + r.val) * 4096 + k.val = r.val * 4096 + k.val
      omega)
  rw [← e']
  refine codeV_apply _ _ _ _ _ _ ?_
  rw [broadcastTo_apply _ _ (ix2 r k) (ix2 r 0) (fun a => by
      match a with
      | ⟨0, _⟩ => rfl
      | ⟨1, _⟩ => rfl), invV_apply, max_apply]

/-- A block's scales at an entry. -/
theorem scales_apply (x0 : Vec Bits S1x256x4096 .bf16) (z : Fin 1) (r : Fin 256) (w : Fin 1) :
    k0_pay2 (F := Bits) (scaleV S256x1 (k0_pay4 x0)) (ix3 z r w) = scale1 (rowMax fun k => x0 (ix3 0 r k)) := by
  unfold k0_pay2
  rw [shapeCast_apply _ _ (ix3 z r w) (ix2 r 0) (by
      rw [Shape.rowMajor_val_three, Shape.rowMajor_val_two]
      show r.val * 1 + 0 = (z.val * 256 + r.val) * 1 + w.val
      omega), scaleV_apply, max_apply]

/-! ## The run -/

open Idealize.SL.Sem
open Idealize.ShloMosaic.Pipeline (Dat)

theorem hz3 : (![0, 0, 0] : Fin 3 → Nat) = fun _ => 0 := funext fun a => by fin_cases a <;> rfl

theorem out1_apply (x0 : Vec Bits S1x256x4096 .bf16) (z : Fin 1) (r : Fin 256) (k : Fin 4096) :
    out0_1 (F := Bits) x0 (ix3 z r k) = code1 (x0 (ix3 0 r k)) (rowMax fun k => x0 (ix3 0 r k)) := by
  unfold out0_1 k0_pay32 k0_pay31 k0_pay30 k0_pay29
  rw [View.canon_unit_zero hz3, View.ld_unit_zero (S := S1x256x4096) hz3 _ x0, code_eq, codes_apply]

theorem out2_apply (x0 : Vec Bits S1x256x4096 .bf16) (z : Fin 1) (r : Fin 256) (w : Fin 1) :
    out0_2 (F := Bits) x0 (ix3 z r w) = scale1 (rowMax fun k => x0 (ix3 0 r k)) := by
  unfold out0_2 k0_pay30 k0_pay29
  rw [View.canon_unit_zero hz3, View.ld_unit_zero (S := S1x256x4096) hz3 _ x0, scale_eq, scales_apply]

variable (m : (ℓ : Loc nD τ sig) → Buf (Elt Bits) ℓ) (ρ : Dev nD → PrngReg)

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![t.val / 4, t.val % 4, 0] := (by decide +kernel : ∀ t : Fin grid0.N, _)

theorem lt_N (t : Fin cfg0.N) : t.val < 8 := lt_of_lt_of_eq t.isLt (by decide)

/-- The batch of a point's block, and one of the block's rows in the array. -/
def batch (t : Fin cfg0.N) : Fin 2 := ⟨t.val / 4, by have := lt_N t; omega⟩
def row (t : Fin cfg0.N) (r : Fin 256) : Fin 1024 := ⟨t.val % 4 * 256 + r.val, by omega⟩

theorem emb0 (t : Fin cfg0.N) (z : Fin 1) (r : Fin 256) (k : Fin 4096) :
    ((cfg0.win 0).blk t).view.emb (ix3 z r k) = ix3 (batch t) (row t r) k := by
  funext a; apply Fin.ext
  match a with
  | ⟨0, _⟩ => show win0_0.index t (0 : Fin 3) * 1 + 1 * z.val = t.val / 4; rw [idx0]; simp
  | ⟨1, _⟩ => show win0_0.index t (1 : Fin 3) * 256 + 1 * r.val = t.val % 4 * 256 + r.val; rw [idx0]; simp
  | ⟨2, _⟩ => show win0_0.index t (2 : Fin 3) * 4096 + 1 * k.val = k.val; rw [idx0]; simp
theorem emb1 (t : Fin cfg0.N) (z : Fin 1) (r : Fin 256) (k : Fin 4096) :
    ((cfg0.win 1).blk t).view.emb (ix3 z r k) = ix3 (batch t) (row t r) k := by
  funext a; apply Fin.ext
  match a with
  | ⟨0, _⟩ => show win0_1.index t (0 : Fin 3) * 1 + 1 * z.val = t.val / 4; rw [idx1]; simp
  | ⟨1, _⟩ => show win0_1.index t (1 : Fin 3) * 256 + 1 * r.val = t.val % 4 * 256 + r.val; rw [idx1]; simp
  | ⟨2, _⟩ => show win0_1.index t (2 : Fin 3) * 4096 + 1 * k.val = k.val; rw [idx1]; simp
theorem emb2 (t : Fin cfg0.N) (z : Fin 1) (r : Fin 256) (w : Fin 1) :
    ((cfg0.win 2).blk t).view.emb (ix3 z r w) = ix3 (batch t) (row t r) w := by
  funext a; apply Fin.ext
  match a with
  | ⟨0, _⟩ => show win0_2.index t (0 : Fin 3) * 1 + 1 * z.val = t.val / 4; rw [idx2]; simp
  | ⟨1, _⟩ => show win0_2.index t (1 : Fin 3) * 256 + 1 * r.val = t.val % 4 * 256 + r.val; rw [idx2]; simp
  | ⟨2, _⟩ => show win0_2.index t (2 : Fin 3) * 1 + 1 * w.val = w.val; rw [idx2]; simp

theorem blk_apply (c : Dev nD) (t : Fin cfg0.N) (z : Fin 1) (r : Fin 256) (k : Fin 4096) :
    iblk m c 0 t (ix3 z r k) = m ((c.tc : Thread nD τ).loc main_arg0) (ix3 (batch t) (row t r) k) := by
  show V m c main_arg0 (((cfg0.win 0).blk t).view.emb (ix3 z r k)) = _
  rw [V_main_arg0, emb0]

theorem final1 (c : Dev nD) : (dats (F := Bits) m 0 c).arrAt 1 cfg0.N = codes (m ((c.tc : Thread nD τ).loc main_arg0)) := by
  refine (dats m 0 c).arrAt_eq_of_covers 1 (codes (m ((c.tc : Thread nD τ).loc main_arg0))) (by decide +kernel) fun t hf y => ?_
  show (dats (F := Bits) m 0 c).after 1 t y = _
  obtain ⟨z, r, k, rfl⟩ : ∃ (z : Fin 1) (r : Fin 256) (k : Fin 4096), y = ix3 z r k := ⟨_, _, _, eq_ix3 y⟩
  rw [emb1 t z r k, after0_1, out1_apply]
  simp only [blk_apply]
  rfl

theorem final2 (c : Dev nD) : (dats (F := Bits) m 0 c).arrAt 2 cfg0.N = scales (m ((c.tc : Thread nD τ).loc main_arg0)) := by
  refine (dats m 0 c).arrAt_eq_of_covers 2 (scales (m ((c.tc : Thread nD τ).loc main_arg0))) (by decide +kernel) fun t hf y => ?_
  show (dats (F := Bits) m 0 c).after 2 t y = _
  obtain ⟨z, r, w, rfl⟩ : ∃ (z : Fin 1) (r : Fin 256) (w : Fin 1), y = ix3 z r w := ⟨_, _, _, eq_ix3 y⟩
  rw [emb2 t z r w, after0_2, out2_apply]
  simp only [blk_apply]
  rfl

/-- The kernel's run: its results end at the codes and the scales, its argument as it was. -/
theorem run : θ_run defs (onTc (τ := τ) (main (F := Bits))) ⟨m, fun _ => 0, ρ⟩ fun r => ∀ c : Dev nD,
      r.2.mem ((c : Thread nD τ).loc main_v0_0) = codes (m ((c : Thread nD τ).loc main_arg0))
      ∧ r.2.mem ((c : Thread nD τ).loc main_v0_1) = scales (m ((c : Thread nD τ).loc main_arg0))
      ∧ r.2.mem ((c : Thread nD τ).loc main_arg0) = m ((c : Thread nD τ).loc main_arg0) :=
  (θ_run defs _ _).mono (fun r h c => ⟨((h c).1 1).trans (final1 m c), ((h c).1 2).trans (final2 m c),
      ((h c).1 0).trans (((dats m 0 c).arrAt_in 0 rfl _).trans ((A_eq m c 0).trans (V_main_arg0 m c)))⟩)
    (run_main m ρ)

end Cert.Quant.Hand

end
-- ==== Proof.WholeTile.lean ====
/-
  The whole kernel `Whole`: the bodies of its two calls run at a grid point, and the two regions' proof data over any
  contents `W` of the buffers at the region's entry.

  The first call quantises 256 rows at a point. The second takes the weights and their scales in blocks of 1024 columns,
  eleven to the 11008, so the last block of each overhangs its array by 256 columns and the staging buffers hold unnamed
  words there: the two windows are stated on the columns inside the array only.
-/
module

public import proofs.«01_k».proof.Proof.Gen.Whole.Regions
public import proofs.«01_k».proof.Proof.Gen.Whole.Skeleton
public import proofs.«01_k».proof.Proof.Gen.Whole.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic

@[expose] public section

set_option maxRecDepth 16384

noncomputable section

namespace Cert.Whole.Hand

open Cert.Whole Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (W : Dev nD → Valuation τ sig (Elt F))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-! # The quantiser's call -/

abbrev q_0 : Rect S1x256x4096 := Rect.unit (s := S1x256x4096) ![0, 0, 0] S1x256x4096.size inb_S1x256x4096_S1x256x4096_0_0_0
abbrev q_1 : Rect S1x256x1 := Rect.unit (s := S1x256x1) ![0, 0, 0] S1x256x1.size inb_S1x256x1_S1x256x1_0_0_0

/-- The exponent field found for each row, -/
def field (x : Vec F S1x256x4096 .bf16) : IVec S256x1 32 := k0_pay7 (k0_pay4 x) (k0_pay5 x) (k0_pay6 x)
/-- and whether it is an end of its range. -/
def ends (x : Vec F S1x256x4096 .bf16) : IVec S256x1 1 := k0_pay8 (k0_pay4 x) (k0_pay5 x) (k0_pay6 x)
/-- The codes the body stores, from the rows it reads, -/
def codes (x : Vec F S1x256x4096 .bf16) : Vec F S1x256x4096 .fp8e4m3 := k0_pay11 (k0_pay2 x) (k0_pay3 x) (field x) (ends x)
/-- and the scales. -/
def scales (x : Vec F S1x256x4096 .bf16) : Vec F S1x256x1 .f32 := k0_pay1 (k0_pay10 (k0_pay3 x) (field x) (ends x))

theorem qcover1 (p0 : Vec F S1x256x4096 .fp8e4m3) (y : S1x256x4096.Idx) :
    ∃ pc ∈ ([⟨q_0, p0⟩] : List (View.Piece (Elt F) S1x256x4096 .fp8e4m3)), y ∈ pc.1.set :=
  View.cover_of_tiled [⟨q_0, p0⟩] S1x256x4096.size (by rfl) y
theorem qcover2 (p0 : Vec F S1x256x1 .f32) (y : S1x256x1.Idx) :
    ∃ pc ∈ ([⟨q_1, p0⟩] : List (View.Piece (Elt F) S1x256x1 .f32)), y ∈ pc.1.set :=
  View.cover_of_tiled [⟨q_1, p0⟩] S1x256x1.size (by rfl) y

theorem ld_q (x : Vec F S1x256x4096 .bf16) : View.ld x q_0 = x := View.ld_unit_zero (S := S1x256x4096) hz3 _ x

set_option maxHeartbeats 1000000 in
/-- The body on whole staging buffers, the operand's at contents `x0` and the results' at anything: the operand's ends as it
    was and the results' at `codes` and `scales` of it. -/
theorem sound_quant (c : Dev nD) (E : Set ℕ) (i : grid0.Coords) (arg2 : Memref sig .tc .vmem S1x256x4096 .bf16) (harg2 : arg2.IsWhole) (arg3 : Memref sig .tc .vmem S1x256x4096 .fp8e4m3) (harg3 : arg3.IsWhole) (arg4 : Memref sig .tc .vmem S1x256x1 .f32) (harg4 : arg4.IsWhole)
    (x0 : Vec F S1x256x4096 .bf16) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (codes x0) ∗ owns (c : Thread nD τ) arg4 fullShare (scales x0)) -∗ K ⟨⟩))
      ⊢ wp frame (wpE (defs₀ (F := F)) Variants.none c none) E (cc0_quant i arg2 harg2 arg3 harg3 arg4 harg4) K := by
  simp only [cc0_quant_eq_skeleton]; unfold cc0_quant_skel
  simp only [k0_part1_eq_skeleton, k0_part2_eq_skeleton, k0_part3_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (qcover1 _)).trans ?_
    refine (View.canon_unit_zero hz3 _ _).trans ?_
    unfold codes field ends
    conv_rhs => rw [← ld_q (arg2.view.read (Elt F) f0)]
    rfl
  iexists _; isplitr
  swap; · iexact H2
  ipureintro
  refine (View.read_writes_eq_canon _ _ _ (qcover2 _)).trans ?_
  refine (View.canon_unit_zero hz3 _ _).trans ?_
  unfold scales field ends
  conv_rhs => rw [← ld_q (arg2.view.read (Elt F) f0)]
  rfl

/-- Window `w`'s block at point `t`, read off its array as the region finds it. -/
def qblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The proof data on core `c`. -/
def qdat (c : Dev nD) : Dat τ (Elt F) Unit ℕ (UR sig nD τ) ℕ cfg0 c where
  A w := W c (Proc.devRef .tc (Pipeline.arrRef spec0 w))
  after w t := match w with
    | ⟨0, _⟩ => qblk W c 0 t
    | ⟨1, _⟩ => codes (qblk W c 0 t)
    | ⟨2, _⟩ => scales (qblk W c 0 t)
  Φ _ := Pipeline.ΦA spec0 c
  q _ := fullShare
  owed _ := 0

theorem qA_eq (c : Dev nD) (w : Fin cfg0.W) : (qdat W c).A w = W c (Proc.devRef .tc (Pipeline.arrRef spec0 w)) := by
  dsimp only [qdat]
theorem qafter_0 (c : Dev nD) (t : Fin cfg0.N) : (qdat W c).after 0 t = qblk W c 0 t := by dsimp only [qdat]
theorem qafter_1 (c : Dev nD) (t : Fin cfg0.N) : (qdat W c).after 1 t = codes (qblk W c 0 t) := by dsimp only [qdat]
theorem qafter_2 (c : Dev nD) (t : Fin cfg0.N) : (qdat W c).after 2 t = scales (qblk W c 0 t) := by dsimp only [qdat]
/-- The body finds the operand's buffer at its block. -/
theorem qbefore_0 (c : Dev nD) (t : Fin cfg0.N) (d) : (qdat W c).before 0 t d = qblk W c 0 t :=
  ((qdat W c).before_in_eq_fetched 0 rfl (fun _ => rfl) (fun _ _ _ => rfl) (fun t => by rw [qafter_0]; unfold Dat.blockOf qblk; rw [qA_eq]; try rfl) t d).trans
    (by unfold Dat.fetched Dat.blockOf qblk; rw [qA_eq]; try rfl)

theorem qrow (t : Fin cfg0.N) :
    defs₀ (F := F) .tc cfg0.body (cfg0.bodyArgs t (cfg0.slots t)) = bodyAt0 t := by
  unfold defs₀; rw [Defs.onTc_tc]

/-- No window of the first call is left open. -/
abbrev qfgt : Fin cfg0.W → Bool := fun _ => false

/-- The body obligation. -/
theorem qbody (c : Dev nD) : BodyObligationLoose (qdat (F := F) W c) (defs₀ (F := F)) Variants.none () Set.univ := fun t => by
  rw [bigSep_W0, bigSep_W0, qrow]
  rw [show (qdat W c).Φ t.succ = (qdat W c).Φ t.castSucc from rfl,
    show (qdat W c).owesAt () t.succ = (qdat W c).owesAt () t.castSucc from rfl]
  iintro ⟨HΦ, Ho, ⟨%d0, H0⟩, ⟨%d1, H1⟩, ⟨%d2, H2⟩⟩
  rw [qbefore_0 W c t d0]
  iapply (sound_quant c Set.univ (grid0.coords t) _ _ _ _ _ _ (qblk W c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]
  · rw [qafter_0 W c t]; iexact H0
  isplitl [H1]
  · rw [qafter_1 W c t]; iexact H1
  rw [qafter_2 W c t]; iexact H2

/-! # The product's call -/

abbrev r0_0 : Rect S1x1024x4096 := Rect.unit (s := S1x1024x4096) ![0, 0, 0] S1x1024x4096.size inb_S1x1024x4096_S1x1024x4096_0_0_0
abbrev r0_1 : Rect S4096x1024 := Rect.unit (s := S4096x1024) ![0, 0] S4096x1024.size inb_S4096x1024_S4096x1024_0_0
abbrev r0_2 : Rect S1x1024x1 := Rect.unit (s := S1x1024x1) ![0, 0, 0] S1x1024x1.size inb_S1x1024x1_S1x1024x1_0_0_0
abbrev r0_3 : Rect S1x1024 := Rect.unit (s := S1x1024) ![0, 0] S1x1024.size inb_S1x1024_S1x1024_0_0
abbrev r0_4 : Rect S1x128x8x1024 := Rect.unit (s := S1x128x8x1024) ![0, 0, 0, 0] S1x128x8x1024.size inb_S1x128x8x1024_S1x128x8x1024_0_0_0_0

/-- What the body leaves in the result's staging buffer, from the contents of the four operands' buffers. -/
def out (x0 : Vec F S1x1024x4096 .fp8e4m3) (x1 : Vec F S4096x1024 .fp8e4m3) (x2 : Vec F S1x1024x1 .f32) (x3 : Vec F S1x1024 .f32) :
    Vec F S1x128x8x1024 .bf16 :=
  View.canon [⟨r0_4, k1_pay1 (View.ld x0 r0_0) (View.ld x1 r0_1) (View.ld x2 r0_2) (View.ld x3 r0_3)⟩]

/-- The one store covers the buffer. -/
theorem cover (p0 : Vec F S1x128x8x1024 .bf16) (y : S1x128x8x1024.Idx) :
    ∃ pc ∈ ([⟨r0_4, p0⟩] : List (View.Piece (Elt F) S1x128x8x1024 .bf16)), y ∈ pc.1.set :=
  View.cover_of_tiled [⟨r0_4, p0⟩] S1x128x8x1024.size (by rfl) y

/-- The loads read whole buffers and the store writes a whole one, so it is the payload of the buffers' contents. -/
theorem out_eq (x0 : Vec F S1x1024x4096 .fp8e4m3) (x1 : Vec F S4096x1024 .fp8e4m3) (x2 : Vec F S1x1024x1 .f32) (x3 : Vec F S1x1024 .f32) :
    out x0 x1 x2 x3 = k1_pay1 x0 x1 x2 x3 := by
  unfold out
  rw [View.canon_unit_zero hz4, View.ld_unit_zero (S := S1x1024x4096) hz3 _ x0, View.ld_unit_zero (S := S4096x1024) hz2 _ x1,
    View.ld_unit_zero (S := S1x1024x1) hz3 _ x2, View.ld_unit_zero (S := S1x1024) hz2 _ x3]

set_option maxHeartbeats 1000000 in
/-- The body on whole staging buffers, the operands' at contents `xW` and the result's at anything: the operands' end as
    they were and the result's at `out` of them. -/
theorem sound_kernel (c : Dev nD) (E : Set ℕ) (i : grid1.Coords) (arg2 : Memref sig .tc .vmem S1x1024x4096 .fp8e4m3) (harg2 : arg2.IsWhole)
    (arg3 : Memref sig .tc .vmem S4096x1024 .fp8e4m3) (harg3 : arg3.IsWhole) (arg4 : Memref sig .tc .vmem S1x1024x1 .f32) (harg4 : arg4.IsWhole)
    (arg5 : Memref sig .tc .vmem S1x1024 .f32) (harg5 : arg5.IsWhole) (arg6 : Memref sig .tc .vmem S1x128x8x1024 .bf16) (harg6 : arg6.IsWhole)
    (x0 : Vec F S1x1024x4096 .fp8e4m3) (x1 : Vec F S4096x1024 .fp8e4m3) (x2 : Vec F S1x1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out x0 x1 x2 x3)) -∗ K ⟨⟩))
      ⊢ wp frame (wpE (defs₀ (F := F)) Variants.none c none) E (cc1_fp8_matmul i arg2 harg2 arg3 harg3 arg4 harg4 arg5 harg5 arg6 harg6) K := by
  simp only [cc1_fp8_matmul_eq_skeleton]; unfold cc1_fp8_matmul_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-! ## The proof data -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The weights' block at point `t`, filled out past the array's edge with zeros (nothing reads the filler). -/
def wblk (c : Dev nD) (t : Fin cfg1.N) : Vec F S4096x1024 .fp8e4m3 :=
  win1_1.fill (grid1.coords t) (fun _ => Scalar.ofBits .fp8e4m3 0#8) (iblk W c 1 t)
/-- The weight scales' block likewise. -/
def sblk (c : Dev nD) (t : Fin cfg1.N) : Vec F S1x1024 .f32 :=
  win1_3.fill (grid1.coords t) (fun _ => Scalar.ofBits .f32 0#32) (iblk W c 3 t)

/-- The proof data on core `c`: the arrays as the region finds them; after the body each operand's buffer at its block
    and the result's at `out` of the blocks; nothing owed; full shares. -/
def dat (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => wblk W c t
    | ⟨2, _⟩ => iblk W c 2 t
    | ⟨3, _⟩ => sblk W c t
    | ⟨4, _⟩ => out (iblk W c 0 t) (wblk W c t) (iblk W c 2 t) (sblk W c t)
  Φ _ := Pipeline.ΦA spec1 c
  q _ := fullShare
  owed _ := 0

theorem A_eq (c : Dev nD) (w : Fin cfg1.W) : (dat W c).A w = W c (Proc.devRef .tc (Pipeline.arrRef spec1 w)) := by
  dsimp only [dat]

theorem after_0 (c : Dev nD) (t : Fin cfg1.N) : (dat W c).after 0 t = iblk W c 0 t := by dsimp only [dat]
theorem after_1 (c : Dev nD) (t : Fin cfg1.N) : (dat W c).after 1 t = wblk W c t := by dsimp only [dat]
theorem after_2 (c : Dev nD) (t : Fin cfg1.N) : (dat W c).after 2 t = iblk W c 2 t := by dsimp only [dat]
theorem after_3 (c : Dev nD) (t : Fin cfg1.N) : (dat W c).after 3 t = sblk W c t := by dsimp only [dat]
theorem after_4 (c : Dev nD) (t : Fin cfg1.N) :
    (dat W c).after 4 t = out (iblk W c 0 t) (wblk W c t) (iblk W c 2 t) (sblk W c t) := by dsimp only [dat]

/-- What the body finds: the codes' and their scales' buffers at their blocks, -/
theorem before_0 (c : Dev nD) (t : Fin cfg1.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_2 (c : Dev nD) (t : Fin cfg1.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- the weights' and their scales' just fetched: the block on the columns inside the array, `d` elsewhere. -/
theorem before_1 (c : Dev nD) (t : Fin cfg1.N) (d) :
    (dat W c).before 1 t d = win1_1.fill (grid1.coords t) d (iblk W c 1 t) := by
  unfold Dat.before; rw [if_pos (fetch1_1 t)]; rfl
theorem before_3 (c : Dev nD) (t : Fin cfg1.N) (d) :
    (dat W c).before 3 t d = win1_3.fill (grid1.coords t) d (iblk W c 3 t) := by
  unfold Dat.before; rw [if_pos (fetch1_3 t)]; rfl

/-- The body table's row at point `t`'s slots is the body there. -/
theorem defs₀_row (t : Fin cfg1.N) :
    defs₀ (F := F) .tc cfg1.body (cfg1.bodyArgs t (cfg1.slots t)) = bodyAt1 t := by
  unfold defs₀; rw [Defs.onTc_tc]

/-- The body at a point, the result's buffer taken back at whatever it holds: the operands' buffers come back holding what
    they held, which on the columns inside the arrays is the block. -/
theorem body_run (c : Dev nD) (t : Fin cfg1.N) (d1 : Vec F S4096x1024 .fp8e4m3) (d3 : Vec F S1x1024 .f32) (K : PUnit → sProp 𝕄) :
    iprop(owns (c : Thread nD τ) (st1_0 t) fullShare (iblk W c 0 t)
          ∗ owns (c : Thread nD τ) (st1_1 t) fullShare (win1_1.fill (grid1.coords t) d1 (iblk W c 1 t))
          ∗ owns (c : Thread nD τ) (st1_2 t) fullShare (iblk W c 2 t)
          ∗ owns (c : Thread nD τ) (st1_3 t) fullShare (win1_3.fill (grid1.coords t) d3 (iblk W c 3 t))
          ∗ (∃ d, owns (c : Thread nD τ) (st1_4 t) fullShare d)
        ∗ (iprop(owns (c : Thread nD τ) (st1_0 t) fullShare (iblk W c 0 t)
            ∗ owns (c : Thread nD τ) (st1_1 t) fullShare (win1_1.fill (grid1.coords t) d1 (iblk W c 1 t))
            ∗ owns (c : Thread nD τ) (st1_2 t) fullShare (iblk W c 2 t)
            ∗ owns (c : Thread nD τ) (st1_3 t) fullShare (win1_3.fill (grid1.coords t) d3 (iblk W c 3 t))
            ∗ owns (c : Thread nD τ) (st1_4 t) fullShare (out (iblk W c 0 t) (win1_1.fill (grid1.coords t) d1 (iblk W c 1 t))
                (iblk W c 2 t) (win1_3.fill (grid1.coords t) d3 (iblk W c 3 t)))) -∗ K ⟨⟩))
      ⊢ wp frame (wpE (defs₀ (F := F)) Variants.none c none) Set.univ (bodyAt1 t) K :=
  sound_kernel c Set.univ (grid1.coords t) _ _ _ _ _ _ _ _ _ _ (iblk W c 0 t) (win1_1.fill (grid1.coords t) d1 (iblk W c 1 t))
    (iblk W c 2 t) (win1_3.fill (grid1.coords t) d3 (iblk W c 3 t)) K

/-- The windows left open in the frame: the result's. -/
abbrev fgt : Fin cfg1.W → Bool := fun | ⟨4, _⟩ => true | ⟨_, _⟩ => false

theorem cut_wblk (c : Dev nD) (t : Fin cfg1.N) : win1_1.cut (grid1.coords t) (wblk W c t) = iblk W c 1 t :=
  win1_1.cut_fill _ _ _
theorem cut_sblk (c : Dev nD) (t : Fin cfg1.N) : win1_3.cut (grid1.coords t) (sblk W c t) = iblk W c 3 t :=
  win1_3.cut_fill _ _ _

/-- The body obligation with the result's window left open. -/
theorem body_obligation_forget (c : Dev nD) :
    BodyObligationLoose (dat (F := F) W c) (defs₀ (F := F)) Variants.none () Set.univ fgt := fun t => by
  rw [bigSep_W1, bigSep_W1, defs₀_row]
  simp only [show fgt 0 = false from rfl, show fgt 1 = false from rfl, show fgt 2 = false from rfl, show fgt 3 = false from rfl,
    show fgt 4 = true from rfl]
  rw [show (dat W c).Φ t.succ = (dat W c).Φ t.castSucc from rfl,
    show (dat W c).owesAt () t.succ = (dat W c).owesAt () t.castSucc from rfl]
  iintro ⟨HΦ, Ho, ⟨%d0, H0⟩, ⟨%d1, H1⟩, ⟨%d2, H2⟩, ⟨%d3, H3⟩, ⟨%d4, H4⟩⟩
  rw [before_0 W c t d0, before_1 W c t d1, before_2 W c t d2, before_3 W c t d3]
  iapply (body_run W c t d1 d3 _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  isplitl [H0]
  · rw [after_0 W c t]; iexact H0
  isplitl [H1]
  · iexists d1
    change _ ⊢ owns (c : Thread nD τ) (st1_1 t) fullShare (win1_1.fill (grid1.coords t) d1 (win1_1.cut (grid1.coords t) ((dat W c).after 1 t)))
    rw [after_1 W c t, cut_wblk]
  isplitl [H2]
  · rw [after_2 W c t]; iexact H2
  isplitl [H3]
  · iexists d3
    change _ ⊢ owns (c : Thread nD τ) (st1_3 t) fullShare (win1_3.fill (grid1.coords t) d3 (win1_3.cut (grid1.coords t) ((dat W c).after 3 t)))
    rw [after_3 W c t, cut_sblk]
  iexists _; iexact H4

end Cert.Whole.Hand

end
-- ==== Proof.RegionOpen.lean ====
/-
  A kernel region of a program of several, some of its windows left open: entered with the unscoped buffers at a valuation,
  left with them at SOME valuation that is what the proof data say on every window kept and unchanged off the region's arrays.
-/
module

public import Idealize.ShloMosaic.Lib.Pipeline.RegionArraysF
public import Idealize.ShloMosaic.Lib.Pipeline.RegionArraysS

@[expose] public section

noncomputable section

namespace Cert.Region

open Idealize.ShloMosaic Idealize.ShloMosaic.TcCoe Idealize.ShloMosaic.Pipeline
open Idealize.SL Idealize.SL.RA
open Idealize.SL.BI (sProp bigSep bigSep_congr)
open scoped Idealize.SL.BI
open Idealize.SL.BI.BIBase Idealize.SL.BI.Laws Idealize.SL.Sem Idealize.SL.ProofMode
open Idealize.ShloMosaic.Rounds PCS

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Labels}

/-! ## The buffers after a region whose arrays end at given contents -/

section Put

variable {cfg : Cfg sig Λ₀} {c : Dev nD}

/-- `V` with the windows' arrays at `A`. -/
def put (A : (w : Fin cfg.W) → Buf Val ((cfg.win w).arr.view.loc (c.tc : Thread nD τ))) (V : Valuation τ sig Val) : Valuation τ sig Val := fun b =>
  if h : ∃ w : Fin cfg.W, b = Proc.devRef .tc (arrRef cfg.spec w) then
    cast (congrArg (fun b' : DevRef τ sig => b'.ty.Contents Val) h.choose_spec.symm) (A h.choose)
  else V b

theorem cast_put (A : (w : Fin cfg.W) → Buf Val ((cfg.win w).arr.view.loc (c.tc : Thread nD τ))) {w w' : Fin cfg.W} (hw : w' = w)
    (e : (Proc.devRef .tc (arrRef cfg.spec w') : DevRef τ sig).ty.Contents Val = (Proc.devRef .tc (arrRef cfg.spec w) : DevRef τ sig).ty.Contents Val) :
    cast e (A w') = A w := by
  subst hw; rfl

/-- At a window's array it holds that window's contents, -/
theorem put_arr (A : (w : Fin cfg.W) → Buf Val ((cfg.win w).arr.view.loc (c.tc : Thread nD τ))) (V : Valuation τ sig Val)
    (hinj : Function.Injective (arrRef cfg.spec)) (w : Fin cfg.W) :
    put A V (Proc.devRef .tc (arrRef cfg.spec w)) = A w := by
  have h : ∃ w' : Fin cfg.W, (Proc.devRef .tc (arrRef cfg.spec w) : DevRef τ sig) = Proc.devRef .tc (arrRef cfg.spec w') := ⟨w, rfl⟩
  have hw : h.choose = w := (hinj (Proc.devRef_injective _ h.choose_spec)).symm
  unfold put
  rw [dif_pos h]
  exact cast_put A hw _

/-- and off the arrays what `V` held. -/
theorem put_off (A : (w : Fin cfg.W) → Buf Val ((cfg.win w).arr.view.loc (c.tc : Thread nD τ))) (V : Valuation τ sig Val) (S : Finset (DevRef τ sig)) :
    ∀ b ∈ S \ arrRefs cfg.spec, put A V b = V b := by
  intro b hb
  unfold put
  rw [dif_neg]
  rintro ⟨w, e⟩
  exact (Finset.mem_sdiff.mp hb).2 (Finset.mem_map.mpr ⟨_, Finset.mem_image.mpr ⟨w, Finset.mem_univ _, rfl⟩, e.symm⟩)

end Put

/-! ## The region's record -/

variable {P : Type} [Fintype P]
variable (pcs : P → PCfg sig Λ₀ Val) (a : (p : P) → (pcs p).Adm)
  (pdats : (p : P) → (c : Dev nD) → Dat τ Val Ix Name U Lvl (pin pcs a p) c) (ι : Ix)
  (defs₀ : Defs nD τ sig Val Λ₀) (𝒱₀ : Variants)
  (L : GSem nD τ sig → Finset Ix) (lv : GSem nD τ sig → Ix → Lvl)
  (p : P) (fg : (q : P) → Fin (pin pcs a q).W → Bool)

/-- What is known of the buffers `S` after the region: on every window kept the contents the proof data name, and `W` off
    the arrays. -/
def Left (S : Finset (DevRef τ sig)) (c : Dev nD) (W V : Valuation τ sig Val) : Prop :=
  (∀ w, fg p w = false → V (Proc.devRef .tc (arrRef (pin pcs a p).spec w)) = (pdats p c).arrAt w (pin pcs a p).N)
    ∧ ∀ b ∈ S \ arrRefs (pcs p).spec, V b = W b

/-- The region over the buffers `S`, for a body that owes nothing and keeps only the scoped buffers and the generator. -/
def seg [∀ e, Nonempty (Val e)] (S : Finset (DevRef τ sig)) (hS : arrRefs (pcs p).spec ⊆ S) (kit : PLaunchFacts (nD := nD) (τ := τ) pcs p) (hK : (pcs p).pre.K = 0)
    (hbody : ∀ c, BodyObligationLoose (pdats p c) defs₀ 𝒱₀ ι Set.univ (fg p))
    (howed : ∀ c t, (pdats p c).owed t = 0) (hrec : ∀ c, (pdats p c).recorded 0 = Set.univ)
    (hshare : ∀ c w, (pdats p c).share w = fullShare)
    (hin : ∀ c, iprop(scopedRest (pin pcs a p).spec c ∗ ∃ r, prngReg c r) ⊢ (pdats p c).Φ 0)
    (hout : ∀ c, (pdats p c).Φ (Fin.last (pin pcs a p).N) ⊢ iprop(scopedRest (pin pcs a p).spec c ∗ ∃ r, prngReg c r))
    (W : Dev nD → Valuation τ sig Val)
    (hW : ∀ c w, (pdats p c).A w = W c (Proc.devRef .tc (arrRef (pin pcs a p).spec w))) :
    RDat.RegionSeg pcs a (toRsF pcs a pdats fg) ι defs₀ 𝒱₀ L lv p where
  win := kit.to₀.win
  block_pos := kit.to₀.block_pos
  stage_whole := kit.to₀.stage_whole
  K := PEmpty
  osem k := k.elim
  ho := OwnSemFacts.none _
  hbody c := (hbody c).toRForget
  hwaits c := RDat.hwaits_of_owed_zero pcs a (toRsF pcs a pdats fg) ι L lv p (fun c t => howed c t) c
  pre c := iprop(StableHlo.held (c.tc : Thread nD τ) S (W c) ∗ (∃ r, prngReg c r) ∗ ∃ Wd, owes (c : Thread nD τ) (0 : CellTallies nD τ sig Ix) Wd)
  post c := iprop(∃ V, ⌜Left pcs a pdats p fg S c (W c) V⌝ ∗ StableHlo.held (c.tc : Thread nD τ) S V ∗ (∃ r, prngReg c r)
    ∗ ∃ Wd, owes (c : Thread nD τ) (0 : CellTallies nD τ sig Ix) Wd)
  X c := iprop(∃ r, prngReg c r)
  Y c := iprop(∃ r, prngReg c r)
  Z c := StableHlo.held (c.tc : Thread nD τ) (S \ arrRefs (pcs p).spec) (W c)
  hentry c := by
    show _ ⊢ |={Set.univ}=> iprop((pdats p c).arrays (pdats p c).A ∗ prefHeld (pcs p).pre c (fun _ => fullShare) (a p).1
        ∗ (pdats p c).owesAt ι 0 ∗ _ ∗ _)
    rw [prefHeld_of_none _ hK, arrays_held pcs a pdats p kit c (hshare c) (pdats p c).A (W c) (hW c),
      StableHlo.held_sub_split (c.tc : Thread nD τ) hS (W c)]
    iintro ⟨⟨⟨Ha, Hr⟩, Hp, HO⟩, -, -⟩
    imodintro
    isplitl [Ha]; · iexact Ha
    isplitr; · iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitl [Hp]; · iexact Hp
    iexact Hr
  hin c := (show _ ⊢ iprop(scopedRest (pin pcs a p).spec c ∗ ∃ r, prngReg c r) from by
    iintro ⟨Hp, -, Hr⟩
    isplitl [Hr]; · iexact Hr
    iexact Hp).trans (hin c)
  hout c := (hout c).trans (by
    rw [ownSems0_none]
    iintro ⟨Hr, Hp⟩
    isplitl [Hp]; · iexact Hp
    isplitr; · iempintro
    iexact Hr)
  hexit c := by
    show iprop(((pdats p c).toRForget (fg p)).arraysAt (pin pcs a p).N ∗ (pdats p c).owesAt ι (Fin.last (pin pcs a p).N) ∗ _ ∗ _) ⊢ _
    iintro ⟨Ha, HO, Hp, Hr⟩
    ihave Ha := ((pdats p c).arraysAt_forget (fg p) (pin pcs a p).N) $$ Ha
    icases Ha with ⟨%A, %hA, Ha⟩
    imodintro
    iexists (put A (W c))
    isplitr
    · ipureintro
      exact ⟨fun w hw => (put_arr A (W c) kit.win.arr_inj w).trans (hA w hw), put_off A (W c) S⟩
    rw [StableHlo.held_sub_split (c.tc : Thread nD τ) hS (put A (W c)),
      ← arrays_held pcs a pdats p kit c (hshare c) A (put A (W c)) (fun w => (put_arr A (W c) kit.win.arr_inj w).symm),
      StableHlo.held_congr (c.tc : Thread nD τ) (S := S \ arrRefs (pcs p).spec) (put_off A (W c) S)]
    isplitl [Ha Hr]
    · isplitl [Ha]; · iexact Ha
      iexact Hr
    isplitl [Hp]; · iexact Hp
    unfold Dat.owesAt owesWithin
    rw [howed c (Fin.last _)]
    icases HO with ⟨%Wd, -, HO⟩; iexists Wd; iexact HO

end Cert.Region

end
-- ==== Proof.WholeRun.lean ====
/-
  The whole kernel `Whole`: its run. The quantiser's call leaves its results at what the proof data say; the host reshapes the
  weights' scales; the product's call is entered from those contents, some of its windows possibly left open.
-/
module

public import proofs.«01_k».proof.Proof.WholeTile
public import proofs.«01_k».proof.Proof.RegionOpen

@[expose] public section

set_option maxRecDepth 16384

noncomputable section

namespace Cert.Whole.Hand

open Cert.Whole Cert.Whole.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers after the quantiser's call, -/
def W1 (c : Dev nD) : Valuation τ sig (Elt F) := afterRegion (qdat (V0 m) c) (V0 m c)
/-- and after the host's reshape of the weights' scales. -/
def W2 (c : Dev nD) : Valuation τ sig (Elt F) := StableHlo.after hostOps1 (W1 m c)

/-- The two regions' proof data, -/
def pdats : (p : Fin 2) → (c : Dev nD) → Dat τ (Elt F) Unit ℕ (UR sig nD τ) ℕ (pin (pcfgs (F := F)) adm p) c :=
  fun | ⟨0, _⟩ => qdat (V0 m) | ⟨1, _⟩ => dat (W2 m)

/-- and their windows left open: none of the first's, `o` of the second's. -/
def opened (o : Fin cfg1.W → Bool) : (p : Fin 2) → Fin (pin (pcfgs (F := F)) adm p).W → Bool :=
  fun | ⟨0, _⟩ => qfgt | ⟨1, _⟩ => o

/-- What is known of the buffers at the end. -/
abbrev Ends (o : Fin cfg1.W → Bool) (c : Dev nD) (V : Valuation τ sig (Elt F)) : Prop :=
  Region.Left (pcfgs (F := F)) adm (pdats m) 1 (opened o) (ucRefs τ sig) c (W2 m c) V

/-- The first region, -/
def reg0 (o : Fin cfg1.W → Bool) (L : GSem nD τ sig → Finset Unit) (lv : GSem nD τ sig → Unit → ℕ) :
    RDat.RegionSeg (pcfgs (F := F)) adm (toRsF (pcfgs (F := F)) adm (pdats m) (opened o)) () defs₀ Variants.none L lv 0 :=
  Region.seg (pcfgs (F := F)) adm (pdats m) () defs₀ Variants.none L lv 0 (opened o) (ucRefs τ sig)
    (arrRefs_sub_ucRefs _ winFacts0.arr_unscoped) launch0.toP rfl (fun c => qbody (V0 m) c) (fun _ _ => rfl) (fun _ => rfl)
    (fun c => (qdat (V0 m) c).share_full fun _ => rfl) (fun c => .rfl) (fun c => .rfl) (V0 m) (fun c w => qA_eq (V0 m) c w)

/-- the second. -/
def reg1 (o : Fin cfg1.W → Bool) (hbody : ∀ c, BodyObligationLoose (dat (F := F) (W2 m) c) (defs₀ (F := F)) Variants.none () Set.univ o)
    (L : GSem nD τ sig → Finset Unit) (lv : GSem nD τ sig → Unit → ℕ) :
    RDat.RegionSeg (pcfgs (F := F)) adm (toRsF (pcfgs (F := F)) adm (pdats m) (opened o)) () defs₀ Variants.none L lv 1 :=
  Region.seg (pcfgs (F := F)) adm (pdats m) () defs₀ Variants.none L lv 1 (opened o) (ucRefs τ sig)
    (arrRefs_sub_ucRefs _ winFacts1.arr_unscoped) launch1.toP rfl hbody (fun _ _ => rfl) (fun _ => rfl)
    (fun c => (dat (W2 m) c).share_full fun _ => rfl) (fun c => .rfl) (fun c => .rfl) (W2 m) (fun c w => A_eq (W2 m) c w)

/-- Left from the first region the buffers are at `W1`. -/
theorem left0 (o : Fin cfg1.W → Bool) (c : Dev nD) (V : Valuation τ sig (Elt F))
    (h : Region.Left (pcfgs (F := F)) adm (pdats m) 0 (opened o) (ucRefs τ sig) c (V0 m c) V) :
    ∀ b ∈ ucRefs τ sig, V b = W1 m c b := by
  intro b hb
  by_cases ha : b ∈ arrRefs (cfgs 0).spec
  · obtain ⟨r, hr, rfl⟩ := Finset.mem_map.mp ha
    obtain ⟨w, -, rfl⟩ := Finset.mem_image.mp hr
    exact (h.1 w rfl).trans (afterRegion_arr (qdat (V0 m) c) (V0 m c) winFacts0.arr_inj w).symm
  · have hs := Finset.mem_sdiff.mpr ⟨hb, ha⟩
    exact (h.2 b hs).trans (afterRegion_off (qdat (V0 m) c) (V0 m c) (ucRefs τ sig) b hs).symm

set_option backward.isDefEq.respectTransparency.types false in
set_option maxHeartbeats 1600000 in
/-- THE RUN: from any memory with zero counters every fair execution ends, the buffers at contents the second region's proof
    data name on the windows kept, and every semaphore counter at zero. -/
theorem run (o : Fin cfg1.W → Bool) (hbody : ∀ c, BodyObligationLoose (dat (F := F) (W2 m) c) (defs₀ (F := F)) Variants.none () Set.univ o) :
    θ_run defs (onTc (τ := τ) (main (F := F))) ⟨m, fun _ => 0, ρ⟩ (fun r =>
      (∀ c : Dev nD, ∃ V, Ends m o c V ∧ ∀ b ∈ ucRefs τ sig, r.2.mem ((c.tc : Thread nD τ).1, b) = V b) ∧ r.2.sem = fun _ => 0) := by
  let L : GSem nD τ sig → Finset Unit := fun _ => ∅
  let lv : GSem nD τ sig → Unit → ℕ := fun _ _ => 0
  let R : Dev nD → sProp 𝕄 := fun c => iprop((∃ r, prngReg c r) ∗ ∃ Wd, owes (c.tc : Thread nD τ) (0 : CellTallies nD τ sig Unit) Wd)
  let host : HostSeg (Name := ℕ) (U := UR sig nD τ) (pcfgs (F := F)) defs₀ Variants.none L lv :=
    HostSeg.ofOps _ _ _ _ _ (ucRefs τ sig) hostOps1
      (fun op h => sub_ucRefs op ((List.forall_iff_forall_mem.mp hostOps1_sub) op h))
      (fun op h => (List.forall_iff_forall_mem.mp hostOps1_fresh) op h) (W1 m) R
  refine RDat.θ_run_regions_kit_sems (pcfgs (F := F)) adm (toRsF (pcfgs (F := F)) adm (pdats m) (opened o)) () cellOf_inj emb₁ defs₀ Variants.none L lv m ρ main
    [.region (reg0 m o L lv), .host host, .region (reg1 m o hbody L lv)]
    (fun c Q => by
      rewrite [main_chain c, RDat.Seg.run_eq_chain,
        show ([.region (reg0 m o L lv), .host host, .region (reg1 m o hbody L lv)] : List (RDat.Seg _ _ _ _ _ _ _ _)).map RDat.Seg.prog = [
          Prog.lift (.customCall (Pipeline.entry 0) ()),
          StableHlo.seq hostOps1,
          Prog.lift (.customCall (Pipeline.entry 1) ()) ] from rfl]
      dsimp (config := { failIfUnchanged := false }) only
      exact .rfl)
    (by simp only [RDat.Seg.pipes_host, RDat.Seg.pipes_region, RDat.Seg.pipes_nil]; decide)
    (O₀ := 0) (hL := fun _ _ => rfl)
    (G := fun _ => iprop(emp)) (u₀ := initOf (cells cfgs cellOf_inj) (launchToks cfgs cellOf_inj))
    (hu₀ := by
      iintro Hu; imodintro
      isplitl [Hu]
      · iapply (show (ownU _ : sProp 𝕄) ⊢ BI.own (emb₁ (initOf (cells cfgs cellOf_inj) (launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (ucRefs τ sig) (V0 m c) ∗ R c))
    (Tₙ := fun c => iprop(∃ V, ⌜Ends m o c V⌝ ∗ StableHlo.held (c.tc : Thread nD τ) (ucRefs τ sig) V))
    (hch := ⟨fun _ => .rfl, fun c => ?_, fun _ => .rfl, fun c => ?_⟩)
    (hinit := ?_)
    (QY := fun c s => ∃ V, Ends m o c V ∧ ∀ b ∈ ucRefs τ sig, s.mem ((c.tc : Thread nD τ).1, b) = V b)
    (hfin := fun c s' => ?_)
    (hQ := fun _ h hz => ⟨h, funext fun g => hz g (.inr (regions_no_unscoped g.2))⟩)
  · -- the first region left: at `W1`
    show iprop(∃ V, ⌜Region.Left (pcfgs (F := F)) adm (pdats m) 0 (opened o) (ucRefs τ sig) c (V0 m c) V⌝
        ∗ StableHlo.held (c.tc : Thread nD τ) (ucRefs τ sig) V ∗ (∃ r, prngReg c r)
        ∗ ∃ Wd, owes (c.tc : Thread nD τ) (0 : CellTallies nD τ sig Unit) Wd)
      ⊢ iprop(StableHlo.held (c.tc : Thread nD τ) (ucRefs τ sig) (W1 m c) ∗ R c)
    iintro ⟨%V, %hV, Hh, HR⟩
    ihave Hh := (Entails.of_eq (StableHlo.held_congr (c.tc : Thread nD τ) (S := ucRefs τ sig) (left0 m o c V hV))) $$ Hh
    isplitl [Hh]; · iexact Hh
    iexact HR
  · -- the second
    show iprop(∃ V, ⌜Ends m o c V⌝
        ∗ StableHlo.held (c.tc : Thread nD τ) (ucRefs τ sig) V ∗ (∃ r, prngReg c r)
        ∗ ∃ Wd, owes (c.tc : Thread nD τ) (0 : CellTallies nD τ sig Unit) Wd)
      ⊢ iprop((∃ V, ⌜Ends m o c V⌝ ∗ StableHlo.held (c.tc : Thread nD τ) (ucRefs τ sig) V)
        ∗ ∃ Wd, owes (c.tc : Thread nD τ) (0 : CellTallies nD τ sig Unit) Wd)
    iintro ⟨%V, %hV, Hh, -, HO⟩
    isplitl [Hh]
    · iexists V; isplitr; · ipureintro; exact hV
      iexact Hh
    iexact HO
  · -- the launch
    refine initEach L lv fun c => ?_
    rw [show unscopedBufs c (fun b => m ((c.tc : Thread nD τ).loc b)) = StableHlo.held (c.tc : Thread nD τ) (ucRefs τ sig) (V0 m c)
        from unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]
    · iexists _; iexact Hp
    iexists _; iexact HO
  · -- the end
    unfold StableHlo.held
    iintro ⟨⟨%V, %hV, Hh⟩, HSI⟩
    ihave Hr := (pointsTo_read_all (ucRefs τ sig) (fun b => ((c.tc : Thread nD τ).1, b)) V s') $$ [Hh HSI]
    · isplitl [Hh] <;> iassumption
    icases Hr with ⟨%h, HSI⟩
    imodintro
    isplitr
    · ipureintro; exact ⟨V, hV, h⟩
    iexact HSI

/-! ## What the buffers hold -/

/-- An unscoped reference is among the buffers held. -/
theorem mem_uc (r : Ref sig .tc) (h : (Proc.devRef .tc r : DevRef τ sig).isScoped = false) : (Proc.devRef .tc r : DevRef τ sig) ∈ ucRefs τ sig :=
  Finset.mem_filter.mpr ⟨StableHlo.devRef_mem_tcRefs r, by rw [h]; decide⟩

/-- A reference that is no output of the first call keeps its contents there. -/
theorem W1_keeps (c : Dev nD) (r : Ref sig .tc) (h : ∀ w, arrRef cfg0.spec w = r → (cfg0.win w).isOut = false) :
    W1 m c (Proc.devRef .tc r) = m ((c.tc : Thread nD τ).loc r) :=
  afterRegion_keeps (qdat (V0 m) c) (V0 m c) winFacts0.arr_inj (fun w => qA_eq (V0 m) c w) r h

/-- The host's operation writes the reshaped scales alone. -/
theorem W2_of (c : Dev nD) (r : Ref sig .tc) (h : r ∉ hostOps1_W) : W2 m c (Proc.devRef .tc r) = W1 m c (Proc.devRef .tc r) :=
  StableHlo.after_of_writes_sub hostOps1 _ hostOps1_writes h

/-- The arguments are at the second region's entry as launched. -/
theorem W2_main_arg0 (c : Dev nD) : W2 m c (Proc.devRef .tc main_arg0) = m ((c.tc : Thread nD τ).loc main_arg0) :=
  (W2_of m c main_arg0 (by decide)).trans (W1_keeps m c main_arg0 (by decide))
theorem W2_main_arg1 (c : Dev nD) : W2 m c (Proc.devRef .tc main_arg1) = m ((c.tc : Thread nD τ).loc main_arg1) :=
  (W2_of m c main_arg1 (by decide)).trans (W1_keeps m c main_arg1 (by decide))
theorem W2_main_arg2 (c : Dev nD) : W2 m c (Proc.devRef .tc main_arg2) = m ((c.tc : Thread nD τ).loc main_arg2) :=
  (W2_of m c main_arg2 (by decide)).trans (W1_keeps m c main_arg2 (by decide))

/-- Off the second region's arrays the buffers end as the region found them, -/
theorem Ends.off {o : Fin cfg1.W → Bool} {c : Dev nD} {V : Valuation τ sig (Elt F)} (h : Ends m o c V) (r : Ref sig .tc)
    (hu : (Proc.devRef .tc r : DevRef τ sig).isScoped = false) (hr : (Proc.devRef .tc r : DevRef τ sig) ∉ arrRefs (τ := τ) (cfgs 1).spec) :
    V (Proc.devRef .tc r) = W2 m c (Proc.devRef .tc r) :=
  h.2 _ (Finset.mem_sdiff.mpr ⟨mem_uc r hu, hr⟩)

/-- and so does an input window kept. -/
theorem Ends.input {o : Fin cfg1.W → Bool} {c : Dev nD} {V : Valuation τ sig (Elt F)} (h : Ends m o c V) (w : Fin cfg1.W)
    (ho : o w = false) (hi : (cfg1.win w).isOut = false) :
    V (Proc.devRef .tc (arrRef spec1 w)) = W2 m c (Proc.devRef .tc (arrRef spec1 w)) :=
  (h.1 w ho).trans (((dat (W2 m) c).arrAt_in w hi _).trans (A_eq (W2 m) c w))

/-- THE FRAME: from any memory with zero counters every fair execution ends, the three arguments as they were and every
    semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ?_, h.2⟩) (run m ρ fgt (body_obligation_forget (W2 m)))
  obtain ⟨V, hV, hr⟩ := h.1 c
  exact ⟨(hr _ (mem_uc main_arg0 (by decide))).trans ((Ends.off m hV main_arg0 (by decide) (by decide)).trans (W2_main_arg0 m c)),
    (hr _ (mem_uc main_arg1 (by decide))).trans ((Ends.input m hV 1 rfl rfl).trans (W2_main_arg1 m c)),
    (hr _ (mem_uc main_arg2 (by decide))).trans ((Ends.off m hV main_arg2 (by decide) (by decide)).trans (W2_main_arg2 m c))⟩

end Cert.Whole.Hand

end
-- ==== Proof.PowerScale.lean ====
/-
  A row's scale over the reals, from `a`, its largest magnitude over 448.

  Read as floats, the words `n · 2²³` for `n ≤ 255` are zero, the normal powers of two and the infinity (`power`). The
  kernel searches for the largest of them that is at most `a`, a bit of `n` at a time, and takes the next one, or one where
  `a` is under the normals or infinite. The reference takes the least normal power above `a`, the infinity if there is none.
-/
module

public import Idealize.ShloMosaic.PureOps.Ideal
public import Idealize.ShloMosaic.PureOps.Ideal.Laws
public import Idealize.ShloMosaic.PureOps.Vector
public import Mathlib.Data.Finset.Fold
public import Mathlib.Data.Finset.Lattice.Fold

@[expose] public section

noncomputable section

open Idealize.ShloMosaic

namespace Cert.PowerScale

/-- The powers of two the words `n · 2²³` are read as: zero, the normals from `2^-126` to `2^127`, and the infinity. -/
def power (n : Nat) : EReal :=
  if n = 0 then 0 else if n < 255 then (((2 : ℝ) ^ ((n : ℤ) - 127) : ℝ) : EReal) else ⊤

theorem power_zero : power 0 = 0 := rfl
theorem power_mid {n : Nat} (h : 1 ≤ n) (h' : n ≤ 254) : power n = (((2 : ℝ) ^ ((n : ℤ) - 127) : ℝ) : EReal) := by
  unfold power; rw [if_neg (by omega), if_pos (by omega)]
theorem power_top {n : Nat} (h : 255 ≤ n) : power n = ⊤ := by
  unfold power; rw [if_neg (by omega), if_neg (by omega)]
theorem power_one : power 127 = 1 := by
  rw [power_mid (by omega) (by omega)]; norm_num

theorem power_pos {n : Nat} (h : 1 ≤ n) : 0 < power n := by
  by_cases h' : n ≤ 254
  · rw [power_mid h h']; exact EReal.coe_pos.mpr (by positivity)
  · rw [power_top (by omega)]; exact EReal.zero_lt_top

theorem power_mono {m n : Nat} (h : m ≤ n) : power m ≤ power n := by
  rcases Nat.eq_zero_or_pos m with rfl | hm
  · rcases Nat.eq_zero_or_pos n with rfl | hn
    · exact le_rfl
    · exact (power_pos hn).le
  by_cases h' : n ≤ 254
  · rw [power_mid hm (by omega), power_mid (by omega) h']
    exact EReal.coe_le_coe_iff.mpr (zpow_le_zpow_right₀ (by norm_num) (by omega))
  · rw [power_top (n := n) (by omega)]; exact le_top

theorem power_lt {m n : Nat} (h : m < n) (hn : n ≤ 255) : power m < power n := by
  rcases Nat.eq_zero_or_pos m with rfl | hm
  · exact power_pos (by omega)
  by_cases h' : n ≤ 254
  · rw [power_mid hm (by omega), power_mid (by omega) h']
    exact EReal.coe_lt_coe_iff.mpr (zpow_lt_zpow_right₀ (by norm_num) (by omega))
  · rw [power_top (n := n) (by omega), power_mid hm (by omega)]; exact EReal.coe_lt_top _

/-- A word read as a float, an element of the kernel's bit casts. -/
def read (b : BitVec 32) : EReal := Ideal.ofBits .f32 b
/-- The word `n · 2²³`. -/
def word (n : BitVec 32) : BitVec 32 := IntOp.shli .vector n 23#32

theorem word_fields : ∀ n : Fin 256, (word (BitVec.ofNat 32 n.val)).extractLsb' 31 1 = 0#1
    ∧ ((word (BitVec.ofNat 32 n.val)).extractLsb' 23 8).toNat = n.val ∧ ((word (BitVec.ofNat 32 n.val)).extractLsb' 0 23).toNat = 0 := by
  decide +kernel

theorem read_word {n : Nat} (h : n ≤ 255) : read (word (BitVec.ofNat 32 n)) = power n := by
  obtain ⟨h1, h2, h3⟩ := word_fields ⟨n, by omega⟩
  simp only at h1 h2 h3
  unfold read
  simp only [Ideal.ofBits, Ideal.ieee, show (8 + 23 : Nat) = 31 from rfl, h1, h2, h3, show ((0#1 : BitVec 1) == 1#1) = false from rfl,
    Bool.false_eq_true, if_false, show (2 ^ 8 - 1 : Nat) = 255 from rfl, if_true]
  unfold power
  by_cases h0 : n = 0
  · subst h0; simp
  by_cases h5 : n = 255
  · subst h5; simp
  rw [if_neg h5, if_neg h0, if_neg h0, if_pos (by omega : n < 255)]
  refine congrArg Real.toEReal ?_
  have : ((n : ℤ) - 127) = (((n : ℤ) - (2 ^ (8 - 1) - 1) - (23 : ℕ)) + 23 : ℤ) := by norm_num
  rw [this, zpow_add₀ (by norm_num)]
  norm_num
  ring

theorem word_lit {n : Nat} (h : n ≤ 255) (b : BitVec 32) (e : word (BitVec.ofNat 32 n) = b) : read b = power n := by
  rw [← e]; exact read_word h

/-- The constants the programs name. -/
theorem read_top : read 0x7F800000#32 = ⊤ := (word_lit (n := 255) (by omega) _ (by decide)).trans (power_top (by omega))
theorem read_min : read 0x00800000#32 = power 1 := word_lit (by omega) _ (by decide)
theorem read_max : read 0x7F000000#32 = power 254 := word_lit (by omega) _ (by decide)
theorem read_one : read 0x3F800000#32 = power 127 := word_lit (by omega) _ (by decide)
theorem read_zero : read 0x00000000#32 = power 0 := word_lit (by omega) _ (by decide)

/-! ## The kernel's search -/

theorem select_cmp {α : Type} (p : Prop) [Decidable p] (x y : α) : Scalar.select (BitVec.ofBool (decide p)) x y = if p then x else y := by
  unfold Scalar.select
  by_cases h : p <;> simp [h]

/-- One step: the bit `b` is set if the power it makes is at most `a`. -/
def step (a : EReal) (b n : BitVec 32) : BitVec 32 :=
  Scalar.select (Ideal.cmp .oge a (read (word (IntOp.addi n b)))) (IntOp.addi n b) n

/-- The exponent field found. -/
def field (a : EReal) : BitVec 32 :=
  step a 1#32 (step a 2#32 (step a 4#32 (step a 8#32 (step a 16#32 (step a 32#32 (step a 64#32 (step a 128#32 0#32)))))))

/-- What is known with the bits under `b` still to come. -/
def Known (a : EReal) (b n : Nat) : Prop := n + b ≤ 256 ∧ (n = 0 ∨ power n ≤ a) ∧ (n + b = 256 ∨ a < power (n + b))

theorem step_known (a : EReal) (b : Nat) (hb : 1 ≤ b) (v : BitVec 32) (h : ∃ n, v = BitVec.ofNat 32 n ∧ Known a (2 * b) n) :
    ∃ n, step a (BitVec.ofNat 32 b) v = BitVec.ofNat 32 n ∧ Known a b n := by
  obtain ⟨n, rfl, h1, h2, h3⟩ := h
  have e : IntOp.addi (BitVec.ofNat 32 n) (BitVec.ofNat 32 b) = BitVec.ofNat 32 (n + b) := (BitVec.ofNat_add n b).symm
  unfold step
  rw [e, read_word (by omega)]
  show ∃ m, Scalar.select (BitVec.ofBool (decide (power (n + b) ≤ a))) _ _ = _ ∧ _
  rw [select_cmp]
  by_cases hp : power (n + b) ≤ a
  · rw [if_pos hp]
    refine ⟨n + b, rfl, by omega, .inr hp, ?_⟩
    rw [show n + b + b = n + 2 * b from by ring]; exact h3
  · rw [if_neg hp]
    exact ⟨n, rfl, by omega, h2, .inr (not_le.mp hp)⟩

theorem field_known (a : EReal) : ∃ n, field a = BitVec.ofNat 32 n ∧ Known a 1 n := by
  unfold field
  refine step_known a 1 (by omega) _ (step_known a 2 (by omega) _ (step_known a 4 (by omega) _ (step_known a 8 (by omega) _
    (step_known a 16 (by omega) _ (step_known a 32 (by omega) _ (step_known a 64 (by omega) _ (step_known a 128 (by omega) _
    ⟨0, rfl, by omega, .inl rfl, .inl rfl⟩)))))))

/-- Whether the field is an end of its range. -/
def ends (v : BitVec 32) : BitVec 1 := IntOp.ori (IntOp.cmpi .eq v 0#32) (IntOp.cmpi .eq v 255#32)

/-- The exponent, of a row whose largest magnitude is `x`. -/
def expo (x : EReal) (v : BitVec 32) : BitVec 32 :=
  Scalar.select (Ideal.cmp .ogt x (read 0x00000000#32)) (Scalar.select (ends v) 0#32 (IntOp.subi v 126#32)) 0#32
/-- Two to an exponent, and to its negative. -/
def pow2 (e : BitVec 32) : EReal := read (word (IntOp.minsi 255#32 (IntOp.maxsi 0#32 (IntOp.addi e 127#32))))
def pow2neg (e : BitVec 32) : EReal := read (word (IntOp.minsi 255#32 (IntOp.maxsi 0#32 (IntOp.addi (IntOp.subi 0#32 e) 127#32))))

/-- Which power the scale is, and which its reciprocal. -/
def up (n : Nat) : Nat := if n = 0 ∨ n = 255 then 127 else n + 1
def dn (n : Nat) : Nat := if n = 0 ∨ n = 255 then 127 else 253 - n

theorem words : ∀ n : Fin 256,
    IntOp.minsi 255#32 (IntOp.maxsi 0#32 (IntOp.addi (Scalar.select (ends (BitVec.ofNat 32 n.val)) 0#32 (IntOp.subi (BitVec.ofNat 32 n.val) 126#32)) 127#32))
      = BitVec.ofNat 32 (up n.val)
    ∧ IntOp.minsi 255#32 (IntOp.maxsi 0#32 (IntOp.addi (IntOp.subi 0#32 (Scalar.select (ends (BitVec.ofNat 32 n.val)) 0#32 (IntOp.subi (BitVec.ofNat 32 n.val) 126#32))) 127#32))
      = BitVec.ofNat 32 (dn n.val) := by
  decide +kernel

theorem up_le {n : Nat} (h : n ≤ 255) : up n ≤ 255 := by unfold up; split <;> omega
theorem dn_le (n : Nat) : dn n ≤ 255 := by unfold dn; split <;> omega

/-- The factor is `1/448` as an f32. -/
theorem factor_nonneg : 0 ≤ read 0x3B124925#32 := by
  unfold read
  simp [Ideal.ofBits, Ideal.ieee, -EReal.coe_mul]

/-- The exponent is the field's, positive row or not: a row that is not has the field zero. -/
theorem expo_eq (x : EReal) (n : Nat) (hn : n ≤ 255) (h : n = 0 ∨ power n ≤ x * read 0x3B124925#32) :
    expo x (BitVec.ofNat 32 n) = Scalar.select (ends (BitVec.ofNat 32 n)) 0#32 (IntOp.subi (BitVec.ofNat 32 n) 126#32) := by
  unfold expo
  rw [read_zero, power_zero]
  show Scalar.select (BitVec.ofBool (decide (0 < x))) _ _ = _
  rw [select_cmp]
  by_cases hx : 0 < x
  · rw [if_pos hx]
  rw [if_neg hx]
  rcases h with rfl | h
  · decide
  · by_cases h0 : n = 0
    · subst h0; decide
    exact absurd (h.trans (EReal.mul_nonpos_iff.mpr (.inr ⟨not_lt.mp hx, factor_nonneg⟩))) (not_le.mpr (power_pos (by omega)))

/-! ## The reference's choice -/

/-- The reference's power at place `j` of its table. -/
def entry (j : Fin 253) : EReal := Ideal.exp2 (((IntOp.subi (BitVec.ofNat 32 j.val) 125#32).toInt : ℝ) : EReal)

theorem entry_int : ∀ j : Fin 253, (IntOp.subi (BitVec.ofNat 32 j.val) 125#32).toInt = ((j.val + 2 : ℕ) : ℤ) - 127 := by decide +kernel

theorem entry_eq (j : Fin 253) : entry j = power (j.val + 2) := by
  unfold entry
  rw [entry_int, power_mid (by omega) (by omega), Ideal.exp2_coe]
  exact congrArg Real.toEReal (Real.rpow_intCast 2 _)

/-- The least power of the table above `a`, the infinity if none is. -/
def above (a : EReal) : EReal :=
  (Finset.univ : Finset (Fin 253)).fold min (read 0x7F800000#32) fun j =>
    Scalar.select (Ideal.cmp .ogt (entry j) a) (entry j) (read 0x7F800000#32)

theorem above_eq (a : EReal) (n : Nat) (h1 : 1 ≤ n) (h2 : n ≤ 254) (hl : power n ≤ a) (hu : a < power (n + 1)) : above a = power (n + 1) := by
  have hs : ∀ j : Fin 253, Scalar.select (Ideal.cmp .ogt (entry j) a) (entry j) (read 0x7F800000#32)
      = if a < power (j.val + 2) then power (j.val + 2) else ⊤ := fun j => by
    rw [read_top, entry_eq]; exact select_cmp _ _ _
  unfold above
  refine le_antisymm (Finset.fold_min_le (power (n + 1)) |>.mpr ?_) (Finset.le_fold_min (power (n + 1)) |>.mpr ⟨?_, fun j _ => ?_⟩)
  · by_cases hn : n = 254
    · left; rw [read_top, power_top (by omega)]
    · right
      refine ⟨⟨n - 1, by omega⟩, Finset.mem_univ _, ?_⟩
      rw [hs]
      have e : n - 1 + 2 = n + 1 := by omega
      simp only [e]
      rw [if_pos hu]
  · rw [read_top]; exact le_top
  · rw [hs]
    split
    · rename_i h
      refine power_mono ?_
      by_contra hc
      exact absurd h (not_lt.mpr ((power_mono (by omega)).trans hl))
    · exact le_top

/-- The reference's scale, and its reciprocal. -/
def scale (a : EReal) : EReal :=
  Scalar.select (IntOp.andi (Ideal.cmp .oge a (read 0x00800000#32)) (Ideal.cmp .olt a (read 0x7F800000#32))) (above a) (read 0x3F800000#32)
def inv (s : EReal) : EReal :=
  Scalar.select (Ideal.cmp .olt s (read 0x7F000000#32)) (Ideal.div (read 0x3F800000#32) s) (read 0x00000000#32)

theorem select_and {α : Type} (p q : Prop) [Decidable p] [Decidable q] (x y : α) :
    Scalar.select (IntOp.andi (BitVec.ofBool (decide p)) (BitVec.ofBool (decide q))) x y = if p ∧ q then x else y := by
  unfold Scalar.select IntOp.andi
  by_cases h : p <;> by_cases h' : q <;> simp [h, h']

theorem scale_eq (a : EReal) (n : Nat) (h : Known a 1 n) : scale a = power (up n) := by
  obtain ⟨h1, h2, h3⟩ := h
  unfold scale
  rw [read_min, read_top, read_one]
  refine (select_and (power 1 ≤ a) (a < ⊤) _ _).trans ?_
  unfold up
  by_cases h0 : n = 0
  · subst h0
    rw [if_neg, if_pos (.inl rfl)]
    rintro ⟨h, -⟩
    rcases h3 with h3 | h3
    · omega
    · exact absurd h (not_le.mpr h3)
  by_cases h5 : n = 255
  · subst h5
    rw [if_neg, if_pos (.inr rfl)]
    rintro ⟨-, h⟩
    rcases h2 with h2 | h2
    · omega
    · rw [power_top (by omega)] at h2; exact absurd h (not_lt.mpr h2)
  have hl : power n ≤ a := h2.resolve_left h0
  have hu : a < power (n + 1) := h3.resolve_left (by omega)
  rw [if_pos ⟨(power_mono (by omega)).trans hl, hu.trans_le le_top⟩, if_neg (by omega)]
  exact above_eq a n (by omega) (by omega) hl hu

theorem inv_eq (n : Nat) (h : n ≤ 255) : inv (power (up n)) = power (dn n) := by
  unfold inv
  rw [read_max, read_one, read_zero]
  refine (select_cmp (power (up n) < power 254) _ _).trans ?_
  unfold up dn
  by_cases h0 : n = 0 ∨ n = 255
  · rw [if_pos h0, if_pos h0, if_pos (power_lt (by omega) (by omega)), power_one]
    unfold Ideal.div
    rw [if_neg one_ne_zero, inv_one, mul_one]
  rw [if_neg h0, if_neg h0]
  by_cases h2 : n ≤ 252
  · rw [if_pos (power_lt (by omega) (by omega)), power_one]
    unfold Ideal.div
    rw [if_neg (power_pos (by omega)).ne', one_mul, power_mid (n := n + 1) (by omega) (by omega), power_mid (n := 253 - n) (by omega) (by omega),
      ← EReal.coe_inv, ← zpow_neg]
    refine congrArg (fun z : ℤ => (((2 : ℝ) ^ z : ℝ) : EReal)) ?_
    omega
  · rw [if_neg (not_lt.mpr (power_mono (by omega))), show 253 - n = 0 from by omega]

/-! ## They agree -/

/-- The kernel's scale of a row whose largest magnitude is `x` is the reference's, -/
theorem kernel_scale (x : EReal) : pow2 (expo x (field (x * read 0x3B124925#32))) = scale (x * read 0x3B124925#32) := by
  obtain ⟨n, e, hk⟩ := field_known (x * read 0x3B124925#32)
  have hn : n ≤ 255 := by have := hk.1; omega
  rw [scale_eq _ n hk, e, expo_eq x n hn hk.2.1]
  unfold pow2
  rw [(words ⟨n, by omega⟩).1]
  exact read_word (up_le hn)

/-- and so is the reciprocal it multiplies by. -/
theorem kernel_inv (x : EReal) : pow2neg (expo x (field (x * read 0x3B124925#32))) = inv (scale (x * read 0x3B124925#32)) := by
  obtain ⟨n, e, hk⟩ := field_known (x * read 0x3B124925#32)
  have hn : n ≤ 255 := by have := hk.1; omega
  rw [scale_eq _ n hk, inv_eq n hn, e, expo_eq x n hn hk.2.1]
  unfold pow2neg
  rw [(words ⟨n, by omega⟩).2]
  exact read_word (dn_le n)

/-! ## The same arithmetic at any instance

The programs print it over an arbitrary float instance; at the extended reals it is the above. -/

section Generic
variable {F : FTy → Type} [FloatOps F]

/-- The kernel's search, exponent, and powers, -/
def fstep (a : F .f32) (b n : BitVec 32) : BitVec 32 :=
  Scalar.select (FloatOps.cmpf .oge a (FloatOps.ofBits .f32 (word (IntOp.addi n b)))) (IntOp.addi n b) n
def ffield (a : F .f32) : BitVec 32 :=
  fstep a 1#32 (fstep a 2#32 (fstep a 4#32 (fstep a 8#32 (fstep a 16#32 (fstep a 32#32 (fstep a 64#32 (fstep a 128#32 0#32)))))))
def fexpo (x : F .f32) (v : BitVec 32) : BitVec 32 :=
  Scalar.select (FloatOps.cmpf .ogt x (FloatOps.ofBits .f32 0x00000000#32)) (Scalar.select (ends v) 0#32 (IntOp.subi v 126#32)) 0#32
def fpow2 (F : FTy → Type) [FloatOps F] (e : BitVec 32) : F .f32 :=
  FloatOps.ofBits .f32 (word (IntOp.minsi 255#32 (IntOp.maxsi 0#32 (IntOp.addi e 127#32))))
def fpow2neg (F : FTy → Type) [FloatOps F] (e : BitVec 32) : F .f32 :=
  FloatOps.ofBits .f32 (word (IntOp.minsi 255#32 (IntOp.maxsi 0#32 (IntOp.addi (IntOp.subi 0#32 e) 127#32))))
/-- the reference's table, choice, scale and reciprocal, -/
def fentry (F : FTy → Type) [FloatOps F] (v : BitVec 32) : F .f32 := FloatOps.exp2 (FloatOps.sitofp .f32 (IntOp.subi v 125#32))
def fpick (p a : F .f32) : F .f32 := Scalar.select (FloatOps.cmpf .ogt p a) p (FloatOps.ofBits .f32 0x7F800000#32)
def fscale (a ab : F .f32) : F .f32 :=
  Scalar.select (IntOp.andi (FloatOps.cmpf .oge a (FloatOps.ofBits .f32 0x00800000#32)) (FloatOps.cmpf .olt a (FloatOps.ofBits .f32 0x7F800000#32)))
    ab (FloatOps.ofBits .f32 0x3F800000#32)
def finv (s : F .f32) : F .f32 :=
  Scalar.select (FloatOps.cmpf .olt s (FloatOps.ofBits .f32 0x7F000000#32)) (FloatOps.divf (FloatOps.ofBits .f32 0x3F800000#32) s)
    (FloatOps.ofBits .f32 0x00000000#32)
/-- and both sides' quotient by 448 and clipped code. -/
def fover (x : F .f32) : F .f32 := FloatOps.mulf x (FloatOps.ofBits .f32 0x3B124925#32)
def fcode (x i : F .f32) : F .fp8e4m3 :=
  FloatOps.truncf .fp8e4m3 (by decide) (FloatOps.minimumf (FloatOps.ofBits .f32 0x43E00000#32)
    (FloatOps.maximumf (FloatOps.ofBits .f32 0xC3E00000#32) (FloatOps.mulf x i)))
end Generic

theorem fstep_ideal (a : EReal) (b n : BitVec 32) : fstep (F := Ideal) a b n = step a b n := by
  unfold fstep step read; simp only [Ideal.cmpf_def, Ideal.ofBits_def]
theorem ffield_ideal (a : EReal) : ffield (F := Ideal) a = field a := by
  unfold ffield field; simp only [fstep_ideal]
theorem fexpo_ideal (x : EReal) (v : BitVec 32) : fexpo (F := Ideal) x v = expo x v := by
  unfold fexpo expo read; simp only [Ideal.cmpf_def, Ideal.ofBits_def]
theorem fpow2_ideal (e : BitVec 32) : fpow2 Ideal e = pow2 e := by
  unfold fpow2 pow2 read; simp only [Ideal.ofBits_def]
theorem fpow2neg_ideal (e : BitVec 32) : fpow2neg Ideal e = pow2neg e := by
  unfold fpow2neg pow2neg read; simp only [Ideal.ofBits_def]
theorem fentry_ideal (j : Fin 253) : fentry Ideal (BitVec.ofNat 32 j.val) = entry j := by
  unfold fentry entry; rfl
theorem fpick_ideal (p a : EReal) : fpick (F := Ideal) p a = Scalar.select (Ideal.cmp .ogt p a) p (read 0x7F800000#32) := by
  unfold fpick read; simp only [Ideal.cmpf_def, Ideal.ofBits_def]
theorem fscale_ideal (a : EReal) : fscale (F := Ideal) a (above a) = scale a := by
  unfold fscale scale read; simp only [Ideal.cmpf_def, Ideal.ofBits_def]
theorem finv_ideal (s : EReal) : finv (F := Ideal) s = inv s := by
  unfold finv inv read; simp only [Ideal.cmpf_def, Ideal.ofBits_def, Ideal.divf_def]
theorem fover_ideal (x : EReal) : fover (F := Ideal) x = x * read 0x3B124925#32 := by
  unfold fover read; simp only [Ideal.mulf_def, Ideal.ofBits_def]
/-- An element's code, from its row's reciprocal scale: the product clipped to the format's range. -/
def code (x i : EReal) : EReal := min (read 0x43E00000#32) (max (read 0xC3E00000#32) (x * i))
theorem fcode_ideal (x i : EReal) : fcode (F := Ideal) x i = code x i := by
  unfold fcode code read; simp only [Ideal.mulf_def, Ideal.ofBits_def, Ideal.truncf_def, Ideal.minimumf_def, Ideal.maximumf_def]

end Cert.PowerScale

end
-- ==== Proof.WholeReferenceValue.lean ====
/-
  The whole reference over the reals: its codes, its scales and its product, each as a function of the arguments at an entry.
-/
module

public import proofs.«01_k».proof.Proof.PowerScale
public import proofs.«01_k».proof.Proof.Gen.WholeReferenceIdeal.Value
public import Idealize.ShloMosaic.Lib.ValueIdx
public import Idealize.ShloMosaic.Lib.Pipeline.Value
public import Idealize.ShloMosaic.Lib.MatmulPlain
public import proofs.«01_k».proof.Proof.MatmulValue

@[expose] public section

set_option maxRecDepth 16384

noncomputable section

open Idealize.ShloMosaic Idealize.ShloMosaic.TcCoe Idealize.ShloMosaic.ValueIdx
open scoped BigOperators

namespace Cert.WholeValue

open Cert.PowerScale

/-- The largest magnitude of a row. -/
def rowMax (f : Fin 4096 → EReal) : EReal :=
  (Finset.univ : Finset (Fin 4096)).fold max (read 0xFF800000#32) fun k => max (f k) (-(f k))
/-- A row's scale: the least power of two above its largest magnitude over 448. -/
def rowScale (f : Fin 4096 → EReal) : EReal := scale (rowMax f * read 0x3B124925#32)

/-- The scales and the codes of the whole array. -/
def scales (x : FVec Ideal ⟨3, ![2, 1024, 4096]⟩ .bf16) : FVec Ideal ⟨3, ![2, 1024, 1]⟩ .f32 := fun i =>
  rowScale fun k => x (ix3 (i 0) (i 1) k)
def codes (x : FVec Ideal ⟨3, ![2, 1024, 4096]⟩ .bf16) : FVec Ideal ⟨3, ![2, 1024, 4096]⟩ .fp8e4m3 := fun i =>
  code (x i) (inv (rowScale fun k => x (ix3 (i 0) (i 1) k)))

theorem scales_apply (x : FVec Ideal ⟨3, ![2, 1024, 4096]⟩ .bf16) (b : Fin 2) (r : Fin 1024) (z : Fin 1) :
    scales x (ix3 b r z) = rowScale fun k => x (ix3 b r k) := rfl
theorem codes_apply (x : FVec Ideal ⟨3, ![2, 1024, 4096]⟩ .bf16) (b : Fin 2) (r : Fin 1024) (k : Fin 4096) :
    codes x (ix3 b r k) = code (x (ix3 b r k)) (inv (rowScale fun k => x (ix3 b r k))) := rfl

end Cert.WholeValue

namespace Cert.WholeReferenceIdeal.Hand

open Cert.WholeReferenceIdeal Cert.WholeReferenceIdeal.Gen Cert.WholeValue Cert.PowerScale

section Generic
variable {F : FTy → Type} [FloatOps F]

/-- The row maxima, -/
def vmax (a0 : Vec F S2x1024x4096 .bf16) : FVec F S2x1024x1 .f32 :=
  shapeCast S2x1024x1 (multiReduction .maximumf [2] S2x1024 (absf (k0_pay2 (F := F) a0)) 0xFF800000#32 reduces_S2x1024x4096_S2x1024 (.inl rfl) rfl)
    shapeCasts_S2x1024_S2x1024x1
/-- over 448. -/
def vdiv (a0 : Vec F S2x1024x4096 .bf16) : FVec F S2x1024x1 .f32 :=
  mulf (vmax a0) (broadcast S2x1024x1 (Scalar.ofBits .f32 0x3B124925#32))
/-- The table of powers. -/
def vtab (F : FTy → Type) [FloatOps F] : FVec F S1x1x253 .f32 :=
  exp2 (sitofp .f32 (subi (iota .tc S1x1x253 32 [2] iota_S1x1x253_d2_w32) (broadcast S1x1x253 125#32)))
/-- Its powers above the rows' quotients, the infinity in the place of the others, -/
def vsel (a0 : Vec F S2x1024x4096 .bf16) : FVec F S2x1024x253 .f32 :=
  select (cmpf .ogt (broadcastTo S2x1024x253 (vtab F) broadcasts_S1x1x253_S2x1024x253) (broadcastTo S2x1024x253 (vdiv a0) broadcasts_S2x1024x1_S2x1024x253))
    (broadcastTo S2x1024x253 (shapeCast S1x1x253 (vtab F) shapeCasts_S1x1x253_S1x1x253) broadcasts_S1x1x253_S2x1024x253)
    (broadcast S2x1024x253 (Scalar.ofBits .f32 0x7F800000#32))
/-- and the least of them. -/
def vabove (a0 : Vec F S2x1024x4096 .bf16) : FVec F S2x1024x1 .f32 :=
  shapeCast S2x1024x1 (multiReduction .minimumf [2] S2x1024 (vsel a0) 0x7F800000#32 reduces_S2x1024x253_S2x1024 (.inl rfl) rfl)
    shapeCasts_S2x1024_S2x1024x1

theorem pay3_eq (a0 : Vec F S2x1024x4096 .bf16) (i : S2x1024x1.Idx) :
    k0_pay3 (F := F) a0 i = fscale (vdiv a0 i) (vabove a0 i) := rfl
theorem vabs_apply (a0 : Vec F S2x1024x4096 .bf16) (i : S2x1024x4096.Idx) :
    absf (k0_pay2 (F := F) a0) i = FloatOps.absf (FloatOps.extf .f32 bitsLt_bf16_f32 (a0 i)) := rfl
theorem vdiv_over (a0 : Vec F S2x1024x4096 .bf16) (i : S2x1024x1.Idx) : vdiv a0 i = fover (vmax a0 i) := rfl

theorem vtab_apply (j : Fin 253) : vtab F (ix3 0 0 j) = fentry F (BitVec.ofNat 32 j.val) := by
  have e : iota .tc S1x1x253 32 [2] iota_S1x1x253_d2_w32 (ix3 0 0 j) = BitVec.ofNat 32 j.val := iota_single_apply _ _ _ _ _ _
  unfold fentry
  rw [← e]
  rfl

theorem vsel_pick (a0 : Vec F S2x1024x4096 .bf16) (i : S2x1024x253.Idx) (p q a : F .f32)
    (e1 : broadcastTo S2x1024x253 (vtab F) broadcasts_S1x1x253_S2x1024x253 i = p)
    (e2 : broadcastTo S2x1024x253 (vdiv a0) broadcasts_S2x1024x1_S2x1024x253 i = a) : vsel a0 i = fpick p a := by
  unfold vsel
  rw [shapeCast_self, select_apply, cmpf_apply, e1, e2]
  rfl

theorem pay4_eq (a0 : Vec F S2x1024x4096 .bf16) (i : S2x1024x4096.Idx) :
    k0_pay4 (F := F) a0 i = fcode (FloatOps.extf .f32 bitsLt_bf16_f32 (a0 i))
      (broadcastTo S2x1024x4096 (fun j => finv (k0_pay3 (F := F) a0 j) : FVec F S2x1024x1 .f32) broadcasts_S2x1024x1_S2x1024x4096 i) := rfl

end Generic

theorem vmax_apply (a0 : Vec Ideal S2x1024x4096 .bf16) (b : Fin 2) (r : Fin 1024) (z : Fin 1) :
    vmax (F := Ideal) a0 (ix3 b r z) = rowMax fun k => a0 (ix3 b r k) := by
  unfold vmax
  rw [shapeCast_apply _ _ (ix3 b r z) (ix2 b r) (by
      rw [Shape.rowMajor_val_three, Shape.rowMajor_val_two]
      show b.val * 1024 + r.val = (b.val * 1024 + r.val) * 1 + z.val
      omega)]
  refine (multiReduction_maximumf_eq_fold _ _ _ _ _ _).trans ?_
  refine (Shape.Reduces.fold_filter_drop_single reduces_S2x1024x4096_S2x1024 _ _ _ (ix2 b r)).trans ?_
  unfold rowMax
  refine congrArg (fun f => (Finset.univ : Finset (Fin 4096)).fold _ _ f) (funext fun k => ?_)
  have e : reduces_S2x1024x4096_S2x1024.lift (ix2 b r) k = ix3 b r k := by
    funext a; apply Fin.ext
    match a with
    | ⟨0, _⟩ => rfl
    | ⟨1, _⟩ => rfl
    | ⟨2, _⟩ => rfl
  rw [Function.comp_apply, e]
  refine (vabs_apply a0 _).trans ?_
  rw [Ideal.absf_def, Ideal.extf_def]
  rfl

theorem vdiv_apply (a0 : Vec Ideal S2x1024x4096 .bf16) (b : Fin 2) (r : Fin 1024) (z : Fin 1) :
    vdiv (F := Ideal) a0 (ix3 b r z) = (rowMax fun k => a0 (ix3 b r k)) * read 0x3B124925#32 := by
  rw [vdiv_over, vmax_apply, fover_ideal]

theorem vsel_apply (a0 : Vec Ideal S2x1024x4096 .bf16) (b : Fin 2) (r : Fin 1024) (j : Fin 253) :
    vsel (F := Ideal) a0 (ix3 b r j) = Scalar.select (Ideal.cmp .ogt (entry j) (vdiv (F := Ideal) a0 (ix3 b r 0))) (entry j) (read 0x7F800000#32) := by
  rw [← fpick_ideal]
  refine vsel_pick (F := Ideal) a0 (ix3 b r j) (entry j) (entry j) _ ?_ ?_
  · rw [broadcastTo_apply _ _ (ix3 b r j) (ix3 0 0 j) (fun a => by
      match a with
      | ⟨0, _⟩ => rfl
      | ⟨1, _⟩ => rfl
      | ⟨2, _⟩ => rfl), vtab_apply, fentry_ideal]
  · exact broadcastTo_apply _ _ (ix3 b r j) (ix3 b r 0) (fun a => by
      match a with
      | ⟨0, _⟩ => rfl
      | ⟨1, _⟩ => rfl
      | ⟨2, _⟩ => rfl)

theorem vabove_apply (a0 : Vec Ideal S2x1024x4096 .bf16) (b : Fin 2) (r : Fin 1024) (z : Fin 1) :
    vabove (F := Ideal) a0 (ix3 b r z) = above (vdiv (F := Ideal) a0 (ix3 b r 0)) := by
  unfold vabove
  rw [shapeCast_apply _ _ (ix3 b r z) (ix2 b r) (by
      rw [Shape.rowMajor_val_three, Shape.rowMajor_val_two]
      show b.val * 1024 + r.val = (b.val * 1024 + r.val) * 1 + z.val
      omega)]
  refine (multiReduction_minimumf_eq_fold _ _ _ _ _ _).trans ?_
  refine (Shape.Reduces.fold_filter_drop_single reduces_S2x1024x253_S2x1024 _ _ _ (ix2 b r)).trans ?_
  unfold above
  refine congrArg (fun f => (Finset.univ : Finset (Fin 253)).fold _ _ f) (funext fun j => ?_)
  have e : reduces_S2x1024x253_S2x1024.lift (ix2 b r) j = ix3 b r j := by
    funext a; apply Fin.ext
    match a with
    | ⟨0, _⟩ => rfl
    | ⟨1, _⟩ => rfl
    | ⟨2, _⟩ => rfl
  rw [Function.comp_apply, e]
  exact vsel_apply a0 b r j

/-- The reference's scales, -/
theorem scales_value (a0 : Vec Ideal S2x1024x4096 .bf16) : k0_pay3 (F := Ideal) a0 = scales a0 := by
  funext i
  obtain ⟨b, r, z, rfl⟩ : ∃ b r z, i = ix3 b r z := ⟨_, _, _, eq_ix3 i⟩
  rw [pay3_eq, vabove_apply, vdiv_apply, vdiv_apply, fscale_ideal, scales_apply]
  unfold rowScale
  exact rfl

/-- its codes, -/
theorem codes_value (a0 : Vec Ideal S2x1024x4096 .bf16) : k0_pay4 (F := Ideal) a0 = codes a0 := by
  funext i
  obtain ⟨b, r, k, rfl⟩ : ∃ b r k, i = ix3 b r k := ⟨_, _, _, eq_ix3 i⟩
  rw [pay4_eq, broadcastTo_apply _ _ (ix3 b r k) (ix3 b r 0) (fun a => by
      match a with
      | ⟨0, _⟩ => rfl
      | ⟨1, _⟩ => rfl
      | ⟨2, _⟩ => rfl), scales_value, fcode_ideal, Ideal.extf_def, codes_apply]
  refine congrArg _ ?_
  rw [finv_ideal, scales_apply]

/-- The reference's product at an entry. -/
theorem dot_apply (x : FVec Ideal S2x1024x4096 .fp8e4m3) (w : FVec Ideal S4096x11008 .fp8e4m3) (b : Fin 2) (r : Fin 1024) (n : Fin 11008) :
    FloatOps.matmul dot_S2x1024x4096_S4096x11008_S2x1024x11008_2_0_01_1_n_n none x w (constant S2x1024x11008 .f32 0x00000000#32) (ix3 b r n)
      = ∑ k : Fin 4096, (x (ix3 b r k) : EReal) * w (ix2 k n) := by
  rw [Ideal.matmul_constant_zero_apply,
    ← Equiv.sum_comp (contrEquiv1 dot_S2x1024x4096_S4096x11008_S2x1024x11008_2_0_01_1_n_n 4096 rfl rfl).symm]
  refine Finset.sum_congr rfl fun k _ => ?_
  have hk := contrEquiv1_symm_val dot_S2x1024x4096_S4096x11008_S2x1024x11008_2_0_01_1_n_n 4096 rfl rfl k
  refine congrArg₂ (fun p q : EReal => p * q) (congrArg x ?_) (congrArg w ?_)
  · funext a; apply Fin.ext
    match a with
    | ⟨0, _⟩ => rfl
    | ⟨1, _⟩ => rfl
    | ⟨2, _⟩ => exact hk
  · funext a; apply Fin.ext
    match a with
    | ⟨0, _⟩ => exact hk
    | ⟨1, _⟩ => rfl

/-- and its product of them with the weights. -/
theorem product_value (a2 : Vec Ideal S2x1024x1 .f32) (a0 : Vec Ideal S2x1024x4096 .fp8e4m3) (a1 : Vec Ideal S4096x11008 .fp8e4m3)
    (a3 : Vec Ideal S11008 .f32) : k0_pay1 (F := Ideal) a2 a0 a1 a3 = Product.G a0 a1 a2 a3 := by
  funext i
  obtain ⟨b, g, s, n, rfl⟩ : ∃ b g s n, i = ix4 b g s n := ⟨_, _, _, _, eq_ix4 i⟩
  unfold k0_pay1
  rw [shapeCast_apply _ _ (ix4 b g s n) (ix3 b (Product.row g s) n) (by
      rw [Shape.rowMajor_val_three, Shape.rowMajor_val_four]
      show (b.val * 1024 + (8 * g.val + s.val)) * 11008 + n.val = ((b.val * 128 + g.val) * 8 + s.val) * 11008 + n.val
      ring)]
  rw [truncf_apply, mulf_apply, mulf_apply]
  simp only [matmul]
  rw [dot_apply,
    broadcastTo_apply _ _ (ix3 b (Product.row g s) n) (ix3 b (Product.row g s) 0) (fun a => by
      match a with
      | ⟨0, _⟩ => rfl
      | ⟨1, _⟩ => rfl
      | ⟨2, _⟩ => rfl),
    broadcastTo_apply _ _ (ix3 b (Product.row g s) n) (ix3 0 0 n) (fun a => by
      match a with
      | ⟨0, _⟩ => rfl
      | ⟨1, _⟩ => rfl
      | ⟨2, _⟩ => rfl),
    shapeCast_apply _ _ (ix3 0 0 n) (ix1 n) (by
      rw [Shape.rowMajor_val_three, Shape.rowMajor_val_one]; show n.val = (0 * 1 + 0) * 11008 + n.val; omega)]
  rfl

theorem hz3 : (![0, 0, 0] : Fin 3 → Nat) = fun _ => 0 := funext fun a => by fin_cases a <;> rfl

variable (a0 : Vec Ideal S2x1024x4096 .bf16) (a1 : Vec Ideal S4096x11008 .fp8e4m3) (a2 : Vec Ideal S11008 .f32)

/-- The arrays after the run. -/
theorem G5_eq : Value.G5 (F := Ideal) a0 a1 a2 = scales a0 := by
  unfold Value.G5 k0_pay5
  rw [View.ld_unit_zero (S := S2x1024x4096) hz3 _ a0, scales_value]
theorem G4_eq : Value.G4 (F := Ideal) a0 a1 a2 = codes a0 := by
  unfold Value.G4 k0_pay6
  rw [View.ld_unit_zero (S := S2x1024x4096) hz3 _ a0, codes_value]
theorem G3_eq : Value.G3 (F := Ideal) a0 a1 a2 = Product.G (codes a0) a1 (scales a0) a2 := by
  unfold Value.G3
  rw [show k0_pay5 (F := Ideal) a0 a1 a2 = scales a0 from G5_eq a0 a1 a2, show k0_pay6 (F := Ideal) a0 a1 a2 = codes a0 from G4_eq a0 a1 a2,
    product_value]

end Cert.WholeReferenceIdeal.Hand

end
-- ==== Proof.WholeIdealTile.lean ====
/-
  The whole kernel `WholeIdeal`: the bodies of its two calls run at a grid point, and the two regions' proof data over any
  contents `W` of the buffers at the region's entry.

  The first call quantises 256 rows at a point. The second takes the weights and their scales in blocks of 1024 columns,
  eleven to the 11008, so the last block of each overhangs its array by 256 columns and the staging buffers hold unnamed
  words there: the two windows are stated on the columns inside the array only.
-/
module

public import proofs.«01_k».proof.Proof.Gen.WholeIdeal.Regions
public import proofs.«01_k».proof.Proof.Gen.WholeIdeal.Skeleton
public import proofs.«01_k».proof.Proof.Gen.WholeIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic

@[expose] public section

set_option maxRecDepth 16384

noncomputable section

namespace Cert.WholeIdeal.Hand

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (W : Dev nD → Valuation τ sig (Elt F))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-! # The quantiser's call -/

abbrev q_0 : Rect S1x256x4096 := Rect.unit (s := S1x256x4096) ![0, 0, 0] S1x256x4096.size inb_S1x256x4096_S1x256x4096_0_0_0
abbrev q_1 : Rect S1x256x1 := Rect.unit (s := S1x256x1) ![0, 0, 0] S1x256x1.size inb_S1x256x1_S1x256x1_0_0_0

/-- The exponent field found for each row, -/
def field (x : Vec F S1x256x4096 .bf16) : IVec S256x1 32 := k0_pay7 (k0_pay4 x) (k0_pay5 x) (k0_pay6 x)
/-- and whether it is an end of its range. -/
def ends (x : Vec F S1x256x4096 .bf16) : IVec S256x1 1 := k0_pay8 (k0_pay4 x) (k0_pay5 x) (k0_pay6 x)
/-- The codes the body stores, from the rows it reads, -/
def codes (x : Vec F S1x256x4096 .bf16) : Vec F S1x256x4096 .fp8e4m3 := k0_pay11 (k0_pay2 x) (k0_pay3 x) (field x) (ends x)
/-- and the scales. -/
def scales (x : Vec F S1x256x4096 .bf16) : Vec F S1x256x1 .f32 := k0_pay1 (k0_pay10 (k0_pay3 x) (field x) (ends x))

theorem qcover1 (p0 : Vec F S1x256x4096 .fp8e4m3) (y : S1x256x4096.Idx) :
    ∃ pc ∈ ([⟨q_0, p0⟩] : List (View.Piece (Elt F) S1x256x4096 .fp8e4m3)), y ∈ pc.1.set :=
  View.cover_of_tiled [⟨q_0, p0⟩] S1x256x4096.size (by rfl) y
theorem qcover2 (p0 : Vec F S1x256x1 .f32) (y : S1x256x1.Idx) :
    ∃ pc ∈ ([⟨q_1, p0⟩] : List (View.Piece (Elt F) S1x256x1 .f32)), y ∈ pc.1.set :=
  View.cover_of_tiled [⟨q_1, p0⟩] S1x256x1.size (by rfl) y

theorem ld_q (x : Vec F S1x256x4096 .bf16) : View.ld x q_0 = x := View.ld_unit_zero (S := S1x256x4096) hz3 _ x

set_option maxHeartbeats 1000000 in
/-- The body on whole staging buffers, the operand's at contents `x0` and the results' at anything: the operand's ends as it
    was and the results' at `codes` and `scales` of it. -/
theorem sound_quant (c : Dev nD) (E : Set ℕ) (i : grid0.Coords) (arg2 : Memref sig .tc .vmem S1x256x4096 .bf16) (harg2 : arg2.IsWhole) (arg3 : Memref sig .tc .vmem S1x256x4096 .fp8e4m3) (harg3 : arg3.IsWhole) (arg4 : Memref sig .tc .vmem S1x256x1 .f32) (harg4 : arg4.IsWhole)
    (x0 : Vec F S1x256x4096 .bf16) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (codes x0) ∗ owns (c : Thread nD τ) arg4 fullShare (scales x0)) -∗ K ⟨⟩))
      ⊢ wp frame (wpE (defs₀ (F := F)) Variants.none c none) E (cc0_quant i arg2 harg2 arg3 harg3 arg4 harg4) K := by
  simp only [cc0_quant_eq_skeleton]; unfold cc0_quant_skel
  simp only [k0_part1_eq_skeleton, k0_part2_eq_skeleton, k0_part3_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (qcover1 _)).trans ?_
    refine (View.canon_unit_zero hz3 _ _).trans ?_
    unfold codes field ends
    conv_rhs => rw [← ld_q (arg2.view.read (Elt F) f0)]
    rfl
  iexists _; isplitr
  swap; · iexact H2
  ipureintro
  refine (View.read_writes_eq_canon _ _ _ (qcover2 _)).trans ?_
  refine (View.canon_unit_zero hz3 _ _).trans ?_
  unfold scales field ends
  conv_rhs => rw [← ld_q (arg2.view.read (Elt F) f0)]
  rfl

/-- Window `w`'s block at point `t`, read off its array as the region finds it. -/
def qblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The proof data on core `c`. -/
def qdat (c : Dev nD) : Dat τ (Elt F) Unit ℕ (UR sig nD τ) ℕ cfg0 c where
  A w := W c (Proc.devRef .tc (Pipeline.arrRef spec0 w))
  after w t := match w with
    | ⟨0, _⟩ => qblk W c 0 t
    | ⟨1, _⟩ => codes (qblk W c 0 t)
    | ⟨2, _⟩ => scales (qblk W c 0 t)
  Φ _ := Pipeline.ΦA spec0 c
  q _ := fullShare
  owed _ := 0

theorem qA_eq (c : Dev nD) (w : Fin cfg0.W) : (qdat W c).A w = W c (Proc.devRef .tc (Pipeline.arrRef spec0 w)) := by
  dsimp only [qdat]
theorem qafter_0 (c : Dev nD) (t : Fin cfg0.N) : (qdat W c).after 0 t = qblk W c 0 t := by dsimp only [qdat]
theorem qafter_1 (c : Dev nD) (t : Fin cfg0.N) : (qdat W c).after 1 t = codes (qblk W c 0 t) := by dsimp only [qdat]
theorem qafter_2 (c : Dev nD) (t : Fin cfg0.N) : (qdat W c).after 2 t = scales (qblk W c 0 t) := by dsimp only [qdat]
/-- The body finds the operand's buffer at its block. -/
theorem qbefore_0 (c : Dev nD) (t : Fin cfg0.N) (d) : (qdat W c).before 0 t d = qblk W c 0 t :=
  ((qdat W c).before_in_eq_fetched 0 rfl (fun _ => rfl) (fun _ _ _ => rfl) (fun t => by rw [qafter_0]; unfold Dat.blockOf qblk; rw [qA_eq]; try rfl) t d).trans
    (by unfold Dat.fetched Dat.blockOf qblk; rw [qA_eq]; try rfl)

theorem qrow (t : Fin cfg0.N) :
    defs₀ (F := F) .tc cfg0.body (cfg0.bodyArgs t (cfg0.slots t)) = bodyAt0 t := by
  unfold defs₀; rw [Defs.onTc_tc]

/-- No window of the first call is left open. -/
abbrev qfgt : Fin cfg0.W → Bool := fun _ => false

/-- The body obligation. -/
theorem qbody (c : Dev nD) : BodyObligationLoose (qdat (F := F) W c) (defs₀ (F := F)) Variants.none () Set.univ := fun t => by
  rw [bigSep_W0, bigSep_W0, qrow]
  rw [show (qdat W c).Φ t.succ = (qdat W c).Φ t.castSucc from rfl,
    show (qdat W c).owesAt () t.succ = (qdat W c).owesAt () t.castSucc from rfl]
  iintro ⟨HΦ, Ho, ⟨%d0, H0⟩, ⟨%d1, H1⟩, ⟨%d2, H2⟩⟩
  rw [qbefore_0 W c t d0]
  iapply (sound_quant c Set.univ (grid0.coords t) _ _ _ _ _ _ (qblk W c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]
  · rw [qafter_0 W c t]; iexact H0
  isplitl [H1]
  · rw [qafter_1 W c t]; iexact H1
  rw [qafter_2 W c t]; iexact H2

/-! # The product's call -/

abbrev r0_0 : Rect S1x1024x4096 := Rect.unit (s := S1x1024x4096) ![0, 0, 0] S1x1024x4096.size inb_S1x1024x4096_S1x1024x4096_0_0_0
abbrev r0_1 : Rect S4096x1024 := Rect.unit (s := S4096x1024) ![0, 0] S4096x1024.size inb_S4096x1024_S4096x1024_0_0
abbrev r0_2 : Rect S1x1024x1 := Rect.unit (s := S1x1024x1) ![0, 0, 0] S1x1024x1.size inb_S1x1024x1_S1x1024x1_0_0_0
abbrev r0_3 : Rect S1x1024 := Rect.unit (s := S1x1024) ![0, 0] S1x1024.size inb_S1x1024_S1x1024_0_0
abbrev r0_4 : Rect S1x128x8x1024 := Rect.unit (s := S1x128x8x1024) ![0, 0, 0, 0] S1x128x8x1024.size inb_S1x128x8x1024_S1x128x8x1024_0_0_0_0

/-- What the body leaves in the result's staging buffer, from the contents of the four operands' buffers. -/
def out (x0 : Vec F S1x1024x4096 .fp8e4m3) (x1 : Vec F S4096x1024 .fp8e4m3) (x2 : Vec F S1x1024x1 .f32) (x3 : Vec F S1x1024 .f32) :
    Vec F S1x128x8x1024 .bf16 :=
  View.canon [⟨r0_4, k1_pay1 (View.ld x0 r0_0) (View.ld x1 r0_1) (View.ld x2 r0_2) (View.ld x3 r0_3)⟩]

/-- The one store covers the buffer. -/
theorem cover (p0 : Vec F S1x128x8x1024 .bf16) (y : S1x128x8x1024.Idx) :
    ∃ pc ∈ ([⟨r0_4, p0⟩] : List (View.Piece (Elt F) S1x128x8x1024 .bf16)), y ∈ pc.1.set :=
  View.cover_of_tiled [⟨r0_4, p0⟩] S1x128x8x1024.size (by rfl) y

/-- The loads read whole buffers and the store writes a whole one, so it is the payload of the buffers' contents. -/
theorem out_eq (x0 : Vec F S1x1024x4096 .fp8e4m3) (x1 : Vec F S4096x1024 .fp8e4m3) (x2 : Vec F S1x1024x1 .f32) (x3 : Vec F S1x1024 .f32) :
    out x0 x1 x2 x3 = k1_pay1 x0 x1 x2 x3 := by
  unfold out
  rw [View.canon_unit_zero hz4, View.ld_unit_zero (S := S1x1024x4096) hz3 _ x0, View.ld_unit_zero (S := S4096x1024) hz2 _ x1,
    View.ld_unit_zero (S := S1x1024x1) hz3 _ x2, View.ld_unit_zero (S := S1x1024) hz2 _ x3]

set_option maxHeartbeats 1000000 in
/-- The body on whole staging buffers, the operands' at contents `xW` and the result's at anything: the operands' end as
    they were and the result's at `out` of them. -/
theorem sound_kernel (c : Dev nD) (E : Set ℕ) (i : grid1.Coords) (arg2 : Memref sig .tc .vmem S1x1024x4096 .fp8e4m3) (harg2 : arg2.IsWhole)
    (arg3 : Memref sig .tc .vmem S4096x1024 .fp8e4m3) (harg3 : arg3.IsWhole) (arg4 : Memref sig .tc .vmem S1x1024x1 .f32) (harg4 : arg4.IsWhole)
    (arg5 : Memref sig .tc .vmem S1x1024 .f32) (harg5 : arg5.IsWhole) (arg6 : Memref sig .tc .vmem S1x128x8x1024 .bf16) (harg6 : arg6.IsWhole)
    (x0 : Vec F S1x1024x4096 .fp8e4m3) (x1 : Vec F S4096x1024 .fp8e4m3) (x2 : Vec F S1x1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out x0 x1 x2 x3)) -∗ K ⟨⟩))
      ⊢ wp frame (wpE (defs₀ (F := F)) Variants.none c none) E (cc1_fp8_matmul i arg2 harg2 arg3 harg3 arg4 harg4 arg5 harg5 arg6 harg6) K := by
  simp only [cc1_fp8_matmul_eq_skeleton]; unfold cc1_fp8_matmul_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-! ## The proof data -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The weights' block at point `t`, filled out past the array's edge with zeros (nothing reads the filler). -/
def wblk (c : Dev nD) (t : Fin cfg1.N) : Vec F S4096x1024 .fp8e4m3 :=
  win1_1.fill (grid1.coords t) (fun _ => Scalar.ofBits .fp8e4m3 0#8) (iblk W c 1 t)
/-- The weight scales' block likewise. -/
def sblk (c : Dev nD) (t : Fin cfg1.N) : Vec F S1x1024 .f32 :=
  win1_3.fill (grid1.coords t) (fun _ => Scalar.ofBits .f32 0#32) (iblk W c 3 t)

/-- The proof data on core `c`: the arrays as the region finds them; after the body each operand's buffer at its block
    and the result's at `out` of the blocks; nothing owed; full shares. -/
def dat (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => wblk W c t
    | ⟨2, _⟩ => iblk W c 2 t
    | ⟨3, _⟩ => sblk W c t
    | ⟨4, _⟩ => out (iblk W c 0 t) (wblk W c t) (iblk W c 2 t) (sblk W c t)
  Φ _ := Pipeline.ΦA spec1 c
  q _ := fullShare
  owed _ := 0

theorem A_eq (c : Dev nD) (w : Fin cfg1.W) : (dat W c).A w = W c (Proc.devRef .tc (Pipeline.arrRef spec1 w)) := by
  dsimp only [dat]

theorem after_0 (c : Dev nD) (t : Fin cfg1.N) : (dat W c).after 0 t = iblk W c 0 t := by dsimp only [dat]
theorem after_1 (c : Dev nD) (t : Fin cfg1.N) : (dat W c).after 1 t = wblk W c t := by dsimp only [dat]
theorem after_2 (c : Dev nD) (t : Fin cfg1.N) : (dat W c).after 2 t = iblk W c 2 t := by dsimp only [dat]
theorem after_3 (c : Dev nD) (t : Fin cfg1.N) : (dat W c).after 3 t = sblk W c t := by dsimp only [dat]
theorem after_4 (c : Dev nD) (t : Fin cfg1.N) :
    (dat W c).after 4 t = out (iblk W c 0 t) (wblk W c t) (iblk W c 2 t) (sblk W c t) := by dsimp only [dat]

/-- What the body finds: the codes' and their scales' buffers at their blocks, -/
theorem before_0 (c : Dev nD) (t : Fin cfg1.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_2 (c : Dev nD) (t : Fin cfg1.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- the weights' and their scales' just fetched: the block on the columns inside the array, `d` elsewhere. -/
theorem before_1 (c : Dev nD) (t : Fin cfg1.N) (d) :
    (dat W c).before 1 t d = win1_1.fill (grid1.coords t) d (iblk W c 1 t) := by
  unfold Dat.before; rw [if_pos (fetch1_1 t)]; rfl
theorem before_3 (c : Dev nD) (t : Fin cfg1.N) (d) :
    (dat W c).before 3 t d = win1_3.fill (grid1.coords t) d (iblk W c 3 t) := by
  unfold Dat.before; rw [if_pos (fetch1_3 t)]; rfl

/-- The body table's row at point `t`'s slots is the body there. -/
theorem defs₀_row (t : Fin cfg1.N) :
    defs₀ (F := F) .tc cfg1.body (cfg1.bodyArgs t (cfg1.slots t)) = bodyAt1 t := by
  unfold defs₀; rw [Defs.onTc_tc]

/-- The body at a point, the result's buffer taken back at whatever it holds: the operands' buffers come back holding what
    they held, which on the columns inside the arrays is the block. -/
theorem body_run (c : Dev nD) (t : Fin cfg1.N) (d1 : Vec F S4096x1024 .fp8e4m3) (d3 : Vec F S1x1024 .f32) (K : PUnit → sProp 𝕄) :
    iprop(owns (c : Thread nD τ) (st1_0 t) fullShare (iblk W c 0 t)
          ∗ owns (c : Thread nD τ) (st1_1 t) fullShare (win1_1.fill (grid1.coords t) d1 (iblk W c 1 t))
          ∗ owns (c : Thread nD τ) (st1_2 t) fullShare (iblk W c 2 t)
          ∗ owns (c : Thread nD τ) (st1_3 t) fullShare (win1_3.fill (grid1.coords t) d3 (iblk W c 3 t))
          ∗ (∃ d, owns (c : Thread nD τ) (st1_4 t) fullShare d)
        ∗ (iprop(owns (c : Thread nD τ) (st1_0 t) fullShare (iblk W c 0 t)
            ∗ owns (c : Thread nD τ) (st1_1 t) fullShare (win1_1.fill (grid1.coords t) d1 (iblk W c 1 t))
            ∗ owns (c : Thread nD τ) (st1_2 t) fullShare (iblk W c 2 t)
            ∗ owns (c : Thread nD τ) (st1_3 t) fullShare (win1_3.fill (grid1.coords t) d3 (iblk W c 3 t))
            ∗ owns (c : Thread nD τ) (st1_4 t) fullShare (out (iblk W c 0 t) (win1_1.fill (grid1.coords t) d1 (iblk W c 1 t))
                (iblk W c 2 t) (win1_3.fill (grid1.coords t) d3 (iblk W c 3 t)))) -∗ K ⟨⟩))
      ⊢ wp frame (wpE (defs₀ (F := F)) Variants.none c none) Set.univ (bodyAt1 t) K :=
  sound_kernel c Set.univ (grid1.coords t) _ _ _ _ _ _ _ _ _ _ (iblk W c 0 t) (win1_1.fill (grid1.coords t) d1 (iblk W c 1 t))
    (iblk W c 2 t) (win1_3.fill (grid1.coords t) d3 (iblk W c 3 t)) K

/-- The windows left open in the frame: the result's. -/
abbrev fgt : Fin cfg1.W → Bool := fun | ⟨4, _⟩ => true | ⟨_, _⟩ => false

theorem cut_wblk (c : Dev nD) (t : Fin cfg1.N) : win1_1.cut (grid1.coords t) (wblk W c t) = iblk W c 1 t :=
  win1_1.cut_fill _ _ _
theorem cut_sblk (c : Dev nD) (t : Fin cfg1.N) : win1_3.cut (grid1.coords t) (sblk W c t) = iblk W c 3 t :=
  win1_3.cut_fill _ _ _

/-- The body obligation with the result's window left open. -/
theorem body_obligation_forget (c : Dev nD) :
    BodyObligationLoose (dat (F := F) W c) (defs₀ (F := F)) Variants.none () Set.univ fgt := fun t => by
  rw [bigSep_W1, bigSep_W1, defs₀_row]
  simp only [show fgt 0 = false from rfl, show fgt 1 = false from rfl, show fgt 2 = false from rfl, show fgt 3 = false from rfl,
    show fgt 4 = true from rfl]
  rw [show (dat W c).Φ t.succ = (dat W c).Φ t.castSucc from rfl,
    show (dat W c).owesAt () t.succ = (dat W c).owesAt () t.castSucc from rfl]
  iintro ⟨HΦ, Ho, ⟨%d0, H0⟩, ⟨%d1, H1⟩, ⟨%d2, H2⟩, ⟨%d3, H3⟩, ⟨%d4, H4⟩⟩
  rw [before_0 W c t d0, before_1 W c t d1, before_2 W c t d2, before_3 W c t d3]
  iapply (body_run W c t d1 d3 _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  isplitl [H0]
  · rw [after_0 W c t]; iexact H0
  isplitl [H1]
  · iexists d1
    change _ ⊢ owns (c : Thread nD τ) (st1_1 t) fullShare (win1_1.fill (grid1.coords t) d1 (win1_1.cut (grid1.coords t) ((dat W c).after 1 t)))
    rw [after_1 W c t, cut_wblk]
  isplitl [H2]
  · rw [after_2 W c t]; iexact H2
  isplitl [H3]
  · iexists d3
    change _ ⊢ owns (c : Thread nD τ) (st1_3 t) fullShare (win1_3.fill (grid1.coords t) d3 (win1_3.cut (grid1.coords t) ((dat W c).after 3 t)))
    rw [after_3 W c t, cut_sblk]
  iexists _; iexact H4

end Cert.WholeIdeal.Hand

end
-- ==== Proof.WholeIdealRun.lean ====
/-
  The whole kernel `WholeIdeal`: its run. The quantiser's call leaves its results at what the proof data say; the host reshapes the
  weights' scales; the product's call is entered from those contents, some of its windows possibly left open.
-/
module

public import proofs.«01_k».proof.Proof.WholeIdealTile
public import proofs.«01_k».proof.Proof.RegionOpen

@[expose] public section

set_option maxRecDepth 16384

noncomputable section

namespace Cert.WholeIdeal.Hand

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers after the quantiser's call, -/
def W1 (c : Dev nD) : Valuation τ sig (Elt F) := afterRegion (qdat (V0 m) c) (V0 m c)
/-- and after the host's reshape of the weights' scales. -/
def W2 (c : Dev nD) : Valuation τ sig (Elt F) := StableHlo.after hostOps1 (W1 m c)

/-- The two regions' proof data, -/
def pdats : (p : Fin 2) → (c : Dev nD) → Dat τ (Elt F) Unit ℕ (UR sig nD τ) ℕ (pin (pcfgs (F := F)) adm p) c :=
  fun | ⟨0, _⟩ => qdat (V0 m) | ⟨1, _⟩ => dat (W2 m)

/-- and their windows left open: none of the first's, `o` of the second's. -/
def opened (o : Fin cfg1.W → Bool) : (p : Fin 2) → Fin (pin (pcfgs (F := F)) adm p).W → Bool :=
  fun | ⟨0, _⟩ => qfgt | ⟨1, _⟩ => o

/-- What is known of the buffers at the end. -/
abbrev Ends (o : Fin cfg1.W → Bool) (c : Dev nD) (V : Valuation τ sig (Elt F)) : Prop :=
  Region.Left (pcfgs (F := F)) adm (pdats m) 1 (opened o) (ucRefs τ sig) c (W2 m c) V

/-- The first region, -/
def reg0 (o : Fin cfg1.W → Bool) (L : GSem nD τ sig → Finset Unit) (lv : GSem nD τ sig → Unit → ℕ) :
    RDat.RegionSeg (pcfgs (F := F)) adm (toRsF (pcfgs (F := F)) adm (pdats m) (opened o)) () defs₀ Variants.none L lv 0 :=
  Region.seg (pcfgs (F := F)) adm (pdats m) () defs₀ Variants.none L lv 0 (opened o) (ucRefs τ sig)
    (arrRefs_sub_ucRefs _ winFacts0.arr_unscoped) launch0.toP rfl (fun c => qbody (V0 m) c) (fun _ _ => rfl) (fun _ => rfl)
    (fun c => (qdat (V0 m) c).share_full fun _ => rfl) (fun c => .rfl) (fun c => .rfl) (V0 m) (fun c w => qA_eq (V0 m) c w)

/-- the second. -/
def reg1 (o : Fin cfg1.W → Bool) (hbody : ∀ c, BodyObligationLoose (dat (F := F) (W2 m) c) (defs₀ (F := F)) Variants.none () Set.univ o)
    (L : GSem nD τ sig → Finset Unit) (lv : GSem nD τ sig → Unit → ℕ) :
    RDat.RegionSeg (pcfgs (F := F)) adm (toRsF (pcfgs (F := F)) adm (pdats m) (opened o)) () defs₀ Variants.none L lv 1 :=
  Region.seg (pcfgs (F := F)) adm (pdats m) () defs₀ Variants.none L lv 1 (opened o) (ucRefs τ sig)
    (arrRefs_sub_ucRefs _ winFacts1.arr_unscoped) launch1.toP rfl hbody (fun _ _ => rfl) (fun _ => rfl)
    (fun c => (dat (W2 m) c).share_full fun _ => rfl) (fun c => .rfl) (fun c => .rfl) (W2 m) (fun c w => A_eq (W2 m) c w)

/-- Left from the first region the buffers are at `W1`. -/
theorem left0 (o : Fin cfg1.W → Bool) (c : Dev nD) (V : Valuation τ sig (Elt F))
    (h : Region.Left (pcfgs (F := F)) adm (pdats m) 0 (opened o) (ucRefs τ sig) c (V0 m c) V) :
    ∀ b ∈ ucRefs τ sig, V b = W1 m c b := by
  intro b hb
  by_cases ha : b ∈ arrRefs (cfgs 0).spec
  · obtain ⟨r, hr, rfl⟩ := Finset.mem_map.mp ha
    obtain ⟨w, -, rfl⟩ := Finset.mem_image.mp hr
    exact (h.1 w rfl).trans (afterRegion_arr (qdat (V0 m) c) (V0 m c) winFacts0.arr_inj w).symm
  · have hs := Finset.mem_sdiff.mpr ⟨hb, ha⟩
    exact (h.2 b hs).trans (afterRegion_off (qdat (V0 m) c) (V0 m c) (ucRefs τ sig) b hs).symm

set_option backward.isDefEq.respectTransparency.types false in
set_option maxHeartbeats 1600000 in
/-- THE RUN: from any memory with zero counters every fair execution ends, the buffers at contents the second region's proof
    data name on the windows kept, and every semaphore counter at zero. -/
theorem run (o : Fin cfg1.W → Bool) (hbody : ∀ c, BodyObligationLoose (dat (F := F) (W2 m) c) (defs₀ (F := F)) Variants.none () Set.univ o) :
    θ_run defs (onTc (τ := τ) (main (F := F))) ⟨m, fun _ => 0, ρ⟩ (fun r =>
      (∀ c : Dev nD, ∃ V, Ends m o c V ∧ ∀ b ∈ ucRefs τ sig, r.2.mem ((c.tc : Thread nD τ).1, b) = V b) ∧ r.2.sem = fun _ => 0) := by
  let L : GSem nD τ sig → Finset Unit := fun _ => ∅
  let lv : GSem nD τ sig → Unit → ℕ := fun _ _ => 0
  let R : Dev nD → sProp 𝕄 := fun c => iprop((∃ r, prngReg c r) ∗ ∃ Wd, owes (c.tc : Thread nD τ) (0 : CellTallies nD τ sig Unit) Wd)
  let host : HostSeg (Name := ℕ) (U := UR sig nD τ) (pcfgs (F := F)) defs₀ Variants.none L lv :=
    HostSeg.ofOps _ _ _ _ _ (ucRefs τ sig) hostOps1
      (fun op h => sub_ucRefs op ((List.forall_iff_forall_mem.mp hostOps1_sub) op h))
      (fun op h => (List.forall_iff_forall_mem.mp hostOps1_fresh) op h) (W1 m) R
  refine RDat.θ_run_regions_kit_sems (pcfgs (F := F)) adm (toRsF (pcfgs (F := F)) adm (pdats m) (opened o)) () cellOf_inj emb₁ defs₀ Variants.none L lv m ρ main
    [.region (reg0 m o L lv), .host host, .region (reg1 m o hbody L lv)]
    (fun c Q => by
      rewrite [main_chain c, RDat.Seg.run_eq_chain,
        show ([.region (reg0 m o L lv), .host host, .region (reg1 m o hbody L lv)] : List (RDat.Seg _ _ _ _ _ _ _ _)).map RDat.Seg.prog = [
          Prog.lift (.customCall (Pipeline.entry 0) ()),
          StableHlo.seq hostOps1,
          Prog.lift (.customCall (Pipeline.entry 1) ()) ] from rfl]
      dsimp (config := { failIfUnchanged := false }) only
      exact .rfl)
    (by simp only [RDat.Seg.pipes_host, RDat.Seg.pipes_region, RDat.Seg.pipes_nil]; decide)
    (O₀ := 0) (hL := fun _ _ => rfl)
    (G := fun _ => iprop(emp)) (u₀ := initOf (cells cfgs cellOf_inj) (launchToks cfgs cellOf_inj))
    (hu₀ := by
      iintro Hu; imodintro
      isplitl [Hu]
      · iapply (show (ownU _ : sProp 𝕄) ⊢ BI.own (emb₁ (initOf (cells cfgs cellOf_inj) (launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (ucRefs τ sig) (V0 m c) ∗ R c))
    (Tₙ := fun c => iprop(∃ V, ⌜Ends m o c V⌝ ∗ StableHlo.held (c.tc : Thread nD τ) (ucRefs τ sig) V))
    (hch := ⟨fun _ => .rfl, fun c => ?_, fun _ => .rfl, fun c => ?_⟩)
    (hinit := ?_)
    (QY := fun c s => ∃ V, Ends m o c V ∧ ∀ b ∈ ucRefs τ sig, s.mem ((c.tc : Thread nD τ).1, b) = V b)
    (hfin := fun c s' => ?_)
    (hQ := fun _ h hz => ⟨h, funext fun g => hz g (.inr (regions_no_unscoped g.2))⟩)
  · -- the first region left: at `W1`
    show iprop(∃ V, ⌜Region.Left (pcfgs (F := F)) adm (pdats m) 0 (opened o) (ucRefs τ sig) c (V0 m c) V⌝
        ∗ StableHlo.held (c.tc : Thread nD τ) (ucRefs τ sig) V ∗ (∃ r, prngReg c r)
        ∗ ∃ Wd, owes (c.tc : Thread nD τ) (0 : CellTallies nD τ sig Unit) Wd)
      ⊢ iprop(StableHlo.held (c.tc : Thread nD τ) (ucRefs τ sig) (W1 m c) ∗ R c)
    iintro ⟨%V, %hV, Hh, HR⟩
    ihave Hh := (Entails.of_eq (StableHlo.held_congr (c.tc : Thread nD τ) (S := ucRefs τ sig) (left0 m o c V hV))) $$ Hh
    isplitl [Hh]; · iexact Hh
    iexact HR
  · -- the second
    show iprop(∃ V, ⌜Ends m o c V⌝
        ∗ StableHlo.held (c.tc : Thread nD τ) (ucRefs τ sig) V ∗ (∃ r, prngReg c r)
        ∗ ∃ Wd, owes (c.tc : Thread nD τ) (0 : CellTallies nD τ sig Unit) Wd)
      ⊢ iprop((∃ V, ⌜Ends m o c V⌝ ∗ StableHlo.held (c.tc : Thread nD τ) (ucRefs τ sig) V)
        ∗ ∃ Wd, owes (c.tc : Thread nD τ) (0 : CellTallies nD τ sig Unit) Wd)
    iintro ⟨%V, %hV, Hh, -, HO⟩
    isplitl [Hh]
    · iexists V; isplitr; · ipureintro; exact hV
      iexact Hh
    iexact HO
  · -- the launch
    refine initEach L lv fun c => ?_
    rw [show unscopedBufs c (fun b => m ((c.tc : Thread nD τ).loc b)) = StableHlo.held (c.tc : Thread nD τ) (ucRefs τ sig) (V0 m c)
        from unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]
    · iexists _; iexact Hp
    iexists _; iexact HO
  · -- the end
    unfold StableHlo.held
    iintro ⟨⟨%V, %hV, Hh⟩, HSI⟩
    ihave Hr := (pointsTo_read_all (ucRefs τ sig) (fun b => ((c.tc : Thread nD τ).1, b)) V s') $$ [Hh HSI]
    · isplitl [Hh] <;> iassumption
    icases Hr with ⟨%h, HSI⟩
    imodintro
    isplitr
    · ipureintro; exact ⟨V, hV, h⟩
    iexact HSI

/-! ## What the buffers hold -/

/-- An unscoped reference is among the buffers held. -/
theorem mem_uc (r : Ref sig .tc) (h : (Proc.devRef .tc r : DevRef τ sig).isScoped = false) : (Proc.devRef .tc r : DevRef τ sig) ∈ ucRefs τ sig :=
  Finset.mem_filter.mpr ⟨StableHlo.devRef_mem_tcRefs r, by rw [h]; decide⟩

/-- A reference that is no output of the first call keeps its contents there. -/
theorem W1_keeps (c : Dev nD) (r : Ref sig .tc) (h : ∀ w, arrRef cfg0.spec w = r → (cfg0.win w).isOut = false) :
    W1 m c (Proc.devRef .tc r) = m ((c.tc : Thread nD τ).loc r) :=
  afterRegion_keeps (qdat (V0 m) c) (V0 m c) winFacts0.arr_inj (fun w => qA_eq (V0 m) c w) r h

/-- The host's operation writes the reshaped scales alone. -/
theorem W2_of (c : Dev nD) (r : Ref sig .tc) (h : r ∉ hostOps1_W) : W2 m c (Proc.devRef .tc r) = W1 m c (Proc.devRef .tc r) :=
  StableHlo.after_of_writes_sub hostOps1 _ hostOps1_writes h

/-- The arguments are at the second region's entry as launched. -/
theorem W2_main_arg0 (c : Dev nD) : W2 m c (Proc.devRef .tc main_arg0) = m ((c.tc : Thread nD τ).loc main_arg0) :=
  (W2_of m c main_arg0 (by decide)).trans (W1_keeps m c main_arg0 (by decide))
theorem W2_main_arg1 (c : Dev nD) : W2 m c (Proc.devRef .tc main_arg1) = m ((c.tc : Thread nD τ).loc main_arg1) :=
  (W2_of m c main_arg1 (by decide)).trans (W1_keeps m c main_arg1 (by decide))
theorem W2_main_arg2 (c : Dev nD) : W2 m c (Proc.devRef .tc main_arg2) = m ((c.tc : Thread nD τ).loc main_arg2) :=
  (W2_of m c main_arg2 (by decide)).trans (W1_keeps m c main_arg2 (by decide))

/-- Off the second region's arrays the buffers end as the region found them, -/
theorem Ends.off {o : Fin cfg1.W → Bool} {c : Dev nD} {V : Valuation τ sig (Elt F)} (h : Ends m o c V) (r : Ref sig .tc)
    (hu : (Proc.devRef .tc r : DevRef τ sig).isScoped = false) (hr : (Proc.devRef .tc r : DevRef τ sig) ∉ arrRefs (τ := τ) (cfgs 1).spec) :
    V (Proc.devRef .tc r) = W2 m c (Proc.devRef .tc r) :=
  h.2 _ (Finset.mem_sdiff.mpr ⟨mem_uc r hu, hr⟩)

/-- and so does an input window kept. -/
theorem Ends.input {o : Fin cfg1.W → Bool} {c : Dev nD} {V : Valuation τ sig (Elt F)} (h : Ends m o c V) (w : Fin cfg1.W)
    (ho : o w = false) (hi : (cfg1.win w).isOut = false) :
    V (Proc.devRef .tc (arrRef spec1 w)) = W2 m c (Proc.devRef .tc (arrRef spec1 w)) :=
  (h.1 w ho).trans (((dat (W2 m) c).arrAt_in w hi _).trans (A_eq (W2 m) c w))

/-- THE FRAME: from any memory with zero counters every fair execution ends, the three arguments as they were and every
    semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ?_, h.2⟩) (run m ρ fgt (body_obligation_forget (W2 m)))
  obtain ⟨V, hV, hr⟩ := h.1 c
  exact ⟨(hr _ (mem_uc main_arg0 (by decide))).trans ((Ends.off m hV main_arg0 (by decide) (by decide)).trans (W2_main_arg0 m c)),
    (hr _ (mem_uc main_arg1 (by decide))).trans ((Ends.input m hV 1 rfl rfl).trans (W2_main_arg1 m c)),
    (hr _ (mem_uc main_arg2 (by decide))).trans ((Ends.off m hV main_arg2 (by decide) (by decide)).trans (W2_main_arg2 m c))⟩

end Cert.WholeIdeal.Hand

end
-- ==== Proof.WholeIdealQuant.lean ====
/-
  The whole kernel over the reals, its first call: the codes and the scales it leaves, as functions of the argument at an entry.

  The tile's arithmetic is read at an index over any instance first, then at the extended reals, where `Proof/PowerScale.lean`
  says what the exponent search and the powers come to.
-/
module

public import proofs.«01_k».proof.Proof.WholeIdealRun
public import proofs.«01_k».proof.Proof.WholeReferenceValue
public import Idealize.ShloMosaic.Lib.Pipeline.ValueKit.Geometry

@[expose] public section

set_option maxRecDepth 16384

noncomputable section

open Idealize.ShloMosaic Idealize.ShloMosaic.TcCoe Idealize.ShloMosaic.ValueIdx
open scoped BigOperators

namespace Cert.WholeIdeal.Hand

open Cert.WholeIdeal Cert.WholeIdeal.Gen
open Cert.PowerScale (fstep ffield fexpo fpow2 fpow2neg fover fcode ffield_ideal fexpo_ideal fpow2_ideal fpow2neg_ideal fover_ideal
  fcode_ideal kernel_scale kernel_inv read code inv)
open Cert.WholeValue (rowMax rowScale)

section Generic
variable {F : FTy → Type} [FloatOps F]

theorem pay4_over (x : Vec F S1x256x4096 .bf16) (i : S256x1.Idx) : k0_pay4 x i = fover (k0_pay3 x i) := rfl
theorem field_apply (x : Vec F S1x256x4096 .bf16) (i : S256x1.Idx) : field x i = ffield (k0_pay4 x i) := rfl
theorem ends_apply (x : Vec F S1x256x4096 .bf16) (i : S256x1.Idx) : ends x i = PowerScale.ends (field x i) := rfl
theorem pay9_apply (x : FVec F S256x1 .f32) (v : IVec S256x1 32) (e : IVec S256x1 1) (i : S256x1.Idx) (h : e i = PowerScale.ends (v i)) :
    k0_pay9 x v e i = fexpo (x i) (v i) := by
  unfold fexpo; rw [← h]; rfl
theorem pay10_apply (x : FVec F S256x1 .f32) (v : IVec S256x1 32) (e : IVec S256x1 1) (i : S256x1.Idx) :
    k0_pay10 x v e i = fpow2 F (k0_pay9 x v e i) := rfl

/-- The reciprocals the codes are made with. -/
def recip (x : Vec F S1x256x4096 .bf16) : FVec F S256x1 .f32 := fun i => fpow2neg F (k0_pay9 (k0_pay3 x) (field x) (ends x) i)
/-- The codes before their last reshape. -/
def rows (x : Vec F S1x256x4096 .bf16) : FVec F S256x4096 .fp8e4m3 := fun i =>
  fcode (FloatOps.extf .f32 bitsLt_bf16_f32 (shapeCast S256x4096 x shapeCasts_S1x256x4096_S256x4096 i))
    (broadcastTo S256x4096 (recip x) broadcasts_S256x1_S256x4096 i)

theorem codes_eq (x : Vec F S1x256x4096 .bf16) : codes x = shapeCast S1x256x4096 (rows x) shapeCasts_S256x4096_S1x256x4096 := rfl
theorem qabs_apply (x : Vec F S1x256x4096 .bf16) (i : S256x4096.Idx) :
    absf (k0_pay2 (F := F) x) i
      = FloatOps.absf (FloatOps.extf .f32 bitsLt_bf16_f32 (shapeCast S256x4096 x shapeCasts_S1x256x4096_S256x4096 i)) := rfl
theorem flat_apply (x : Vec F S1x256x4096 .bf16) (r : Fin 256) (k : Fin 4096) :
    shapeCast S256x4096 x shapeCasts_S1x256x4096_S256x4096 (ix2 r k) = x (ix3 0 r k) :=
  shapeCast_apply _ _ _ _ (by
    rw [Shape.rowMajor_val_three, Shape.rowMajor_val_two]
    show (0 * 256 + r.val) * 4096 + k.val = r.val * 4096 + k.val
    omega)
end Generic

/-- A block's row maximum. -/
theorem qmax_apply (x : Vec Ideal S1x256x4096 .bf16) (r : Fin 256) (z : Fin 1) :
    k0_pay3 (F := Ideal) x (ix2 r z) = rowMax fun k => x (ix3 0 r k) := by
  unfold k0_pay3
  rw [shapeCast_apply _ _ (ix2 r z) (ix1 r) (by
      rw [Shape.rowMajor_val_two, Shape.rowMajor_val_one]
      show r.val = r.val * 1 + z.val
      omega)]
  refine (multiReduction_maximumf_eq_fold _ _ _ _ _ _).trans ?_
  refine (Shape.Reduces.fold_filter_drop_single reduces_S256x4096_S256 _ _ _ (ix1 r)).trans ?_
  unfold rowMax
  refine congrArg (fun f => (Finset.univ : Finset (Fin 4096)).fold _ _ f) (funext fun k => ?_)
  have e : reduces_S256x4096_S256.lift (ix1 r) k = ix2 r k := by
    funext a; apply Fin.ext
    match a with
    | ⟨0, _⟩ => rfl
    | ⟨1, _⟩ => rfl
  rw [Function.comp_apply, e]
  refine (qabs_apply x _).trans ?_
  rw [Ideal.absf_def, Ideal.extf_def]
  exact congrArg (fun v : EReal => max v (-v)) (flat_apply x r k)

/-- A block's exponents. -/
theorem qexpo_apply (x : Vec Ideal S1x256x4096 .bf16) (r : Fin 256) (z : Fin 1) :
    k0_pay9 (F := Ideal) (k0_pay3 x) (field x) (ends x) (ix2 r z)
      = PowerScale.expo (rowMax fun k => x (ix3 0 r k)) (PowerScale.field ((rowMax fun k => x (ix3 0 r k)) * read 0x3B124925#32)) := by
  rw [pay9_apply _ _ _ _ (ends_apply x _), field_apply, pay4_over, qmax_apply, fover_ideal, ffield_ideal, fexpo_ideal]

/-- A block's codes at an entry, -/
theorem qcodes_apply (x : Vec Ideal S1x256x4096 .bf16) (z : Fin 1) (r : Fin 256) (k : Fin 4096) :
    codes (F := Ideal) x (ix3 z r k) = code (x (ix3 0 r k)) (inv (rowScale fun k => x (ix3 0 r k))) := by
  rw [codes_eq, shapeCast_apply _ shapeCasts_S256x4096_S1x256x4096 (ix3 z r k) (ix2 r k) (by
      rw [Shape.rowMajor_val_three, Shape.rowMajor_val_two]
      show r.val * 4096 + k.val = (z.val * 256 + r.val) * 4096 + k.val
      omega)]
  unfold rows
  rw [flat_apply, broadcastTo_apply _ _ (ix2 r k) (ix2 r 0) (fun a => by
      match a with
      | ⟨0, _⟩ => rfl
      | ⟨1, _⟩ => rfl), fcode_ideal, Ideal.extf_def]
  unfold recip rowScale
  rw [qexpo_apply, fpow2neg_ideal, kernel_inv]

/-- and its scales. -/
theorem qscales_apply (x : Vec Ideal S1x256x4096 .bf16) (z : Fin 1) (r : Fin 256) (w : Fin 1) :
    scales (F := Ideal) x (ix3 z r w) = rowScale fun k => x (ix3 0 r k) := by
  unfold scales k0_pay1
  rw [shapeCast_apply _ _ (ix3 z r w) (ix2 r 0) (by
      rw [Shape.rowMajor_val_three, Shape.rowMajor_val_two]
      show r.val * 1 + 0 = (z.val * 256 + r.val) * 1 + w.val
      omega), pay10_apply, qexpo_apply, fpow2_ideal, kernel_scale]
  rfl

/-! ## The arrays the call leaves -/

variable (m : (ℓ : Loc nD τ sig) → Buf (Elt Ideal) ℓ) (ρ : Dev nD → PrngReg)

theorem qidx0 : ∀ t : Fin cfg0.N, win0_0.index t = ![t.val / 4, t.val % 4, 0] := (by decide +kernel : ∀ t : Fin grid0.N, _)
theorem qidx1 : ∀ t : Fin cfg0.N, win0_1.index t = ![t.val / 4, t.val % 4, 0] := (by decide +kernel : ∀ t : Fin grid0.N, _)
theorem qidx2 : ∀ t : Fin cfg0.N, win0_2.index t = ![t.val / 4, t.val % 4, 0] := (by decide +kernel : ∀ t : Fin grid0.N, _)

theorem qlt_N (t : Fin cfg0.N) : t.val < 8 := lt_of_lt_of_eq t.isLt (by decide)

/-- The batch of a point's block, and one of the block's rows in the array. -/
def qbatch (t : Fin cfg0.N) : Fin 2 := ⟨t.val / 4, by have := qlt_N t; omega⟩
def qrowOf (t : Fin cfg0.N) (r : Fin 256) : Fin 1024 := ⟨t.val % 4 * 256 + r.val, by omega⟩

theorem qemb0 (t : Fin cfg0.N) (z : Fin 1) (r : Fin 256) (k : Fin 4096) :
    ((cfg0.win 0).blk t).view.emb (ix3 z r k) = ix3 (qbatch t) (qrowOf t r) k := by
  funext a; apply Fin.ext
  match a with
  | ⟨0, _⟩ => show win0_0.index t (0 : Fin 3) * 1 + 1 * z.val = t.val / 4; rw [qidx0]; simp
  | ⟨1, _⟩ => show win0_0.index t (1 : Fin 3) * 256 + 1 * r.val = t.val % 4 * 256 + r.val; rw [qidx0]; simp
  | ⟨2, _⟩ => show win0_0.index t (2 : Fin 3) * 4096 + 1 * k.val = k.val; rw [qidx0]; simp
theorem qemb1 (t : Fin cfg0.N) (z : Fin 1) (r : Fin 256) (k : Fin 4096) :
    ((cfg0.win 1).blk t).view.emb (ix3 z r k) = ix3 (qbatch t) (qrowOf t r) k := by
  funext a; apply Fin.ext
  match a with
  | ⟨0, _⟩ => show win0_1.index t (0 : Fin 3) * 1 + 1 * z.val = t.val / 4; rw [qidx1]; simp
  | ⟨1, _⟩ => show win0_1.index t (1 : Fin 3) * 256 + 1 * r.val = t.val % 4 * 256 + r.val; rw [qidx1]; simp
  | ⟨2, _⟩ => show win0_1.index t (2 : Fin 3) * 4096 + 1 * k.val = k.val; rw [qidx1]; simp
theorem qemb2 (t : Fin cfg0.N) (z : Fin 1) (r : Fin 256) (w : Fin 1) :
    ((cfg0.win 2).blk t).view.emb (ix3 z r w) = ix3 (qbatch t) (qrowOf t r) w := by
  funext a; apply Fin.ext
  match a with
  | ⟨0, _⟩ => show win0_2.index t (0 : Fin 3) * 1 + 1 * z.val = t.val / 4; rw [qidx2]; simp
  | ⟨1, _⟩ => show win0_2.index t (1 : Fin 3) * 256 + 1 * r.val = t.val % 4 * 256 + r.val; rw [qidx2]; simp
  | ⟨2, _⟩ => show win0_2.index t (2 : Fin 3) * 1 + 1 * w.val = w.val; rw [qidx2]; simp

theorem qblk_apply (c : Dev nD) (t : Fin cfg0.N) (z : Fin 1) (r : Fin 256) (k : Fin 4096) :
    qblk (V0 m) c 0 t (ix3 z r k) = m ((c.tc : Thread nD τ).loc main_arg0) (ix3 (qbatch t) (qrowOf t r) k) := by
  show m ((c.tc : Thread nD τ).loc main_arg0) (((cfg0.win 0).blk t).view.emb (ix3 z r k)) = _
  rw [qemb0]

theorem qfinal1 (c : Dev nD) : (qdat (F := Ideal) (V0 m) c).arrAt 1 cfg0.N = WholeValue.codes (m ((c.tc : Thread nD τ).loc main_arg0)) := by
  refine (qdat (V0 m) c).arrAt_eq_of_covers 1 (WholeValue.codes (m ((c.tc : Thread nD τ).loc main_arg0))) (by decide +kernel) fun t hf y => ?_
  show (qdat (F := Ideal) (V0 m) c).after 1 t y = _
  obtain ⟨z, r, k, rfl⟩ : ∃ (z : Fin 1) (r : Fin 256) (k : Fin 4096), y = ix3 z r k := ⟨_, _, _, eq_ix3 y⟩
  rw [qemb1 t z r k, qafter_1, qcodes_apply, WholeValue.codes_apply]
  simp only [qblk_apply]

theorem qfinal2 (c : Dev nD) : (qdat (F := Ideal) (V0 m) c).arrAt 2 cfg0.N = WholeValue.scales (m ((c.tc : Thread nD τ).loc main_arg0)) := by
  refine (qdat (V0 m) c).arrAt_eq_of_covers 2 (WholeValue.scales (m ((c.tc : Thread nD τ).loc main_arg0))) (by decide +kernel) fun t hf y => ?_
  show (qdat (F := Ideal) (V0 m) c).after 2 t y = _
  obtain ⟨z, r, w, rfl⟩ : ∃ (z : Fin 1) (r : Fin 256) (w : Fin 1), y = ix3 z r w := ⟨_, _, _, eq_ix3 y⟩
  rw [qemb2 t z r w, qafter_2, qscales_apply, WholeValue.scales_apply]
  simp only [qblk_apply]

/-- So at the second call's entry the codes and the scales are those of the argument. -/
theorem W2_codes (c : Dev nD) : W2 m c (Proc.devRef .tc main_v0_0) = WholeValue.codes (m ((c.tc : Thread nD τ).loc main_arg0)) :=
  (W2_of m c main_v0_0 (by decide)).trans
    ((Pipeline.afterRegion_arr (qdat (V0 m) c) (V0 m c) winFacts0.arr_inj 1).trans (qfinal1 m c))
theorem W2_scales (c : Dev nD) : W2 m c (Proc.devRef .tc main_v0_1) = WholeValue.scales (m ((c.tc : Thread nD τ).loc main_arg0)) :=
  (W2_of m c main_v0_1 (by decide)).trans
    ((Pipeline.afterRegion_arr (qdat (V0 m) c) (V0 m c) winFacts0.arr_inj 2).trans (qfinal2 m c))

end Cert.WholeIdeal.Hand

end
-- ==== Proof.WholeIdealProduct.lean ====
/-
  The whole kernel over the reals, its second call: the product it leaves, and the whole run.

  The last block of columns overhangs the arrays by 256. A column of the product reads only that column of the weights
  and of their scales, so the words past the edge reach no column that is written back.
-/
module

public import proofs.«01_k».proof.Proof.WholeIdealQuant

@[expose] public section

set_option maxRecDepth 16384

noncomputable section

open Idealize.ShloMosaic Idealize.ShloMosaic.TcCoe Idealize.ShloMosaic.ValueIdx
open scoped BigOperators

namespace Cert.WholeIdeal.Hand

open Cert.WholeIdeal Cert.WholeIdeal.Gen

/-- The body's payload at an entry: it reads one row of the codes and one column of the weights. -/
theorem pay_apply (x0 : Vec Ideal S1x1024x4096 .fp8e4m3) (x1 : Vec Ideal S4096x1024 .fp8e4m3) (x2 : Vec Ideal S1x1024x1 .f32)
    (x3 : Vec Ideal S1x1024 .f32) (z : Fin 1) (g : Fin 128) (s : Fin 8) (q : Fin 1024) :
    k1_pay1 (F := Ideal) x0 x1 x2 x3 (ix4 z g s q)
      = (∑ k : Fin 4096, (x0 (ix3 0 (Product.row g s) k) : EReal) * x1 (ix2 k q)) * x2 (ix3 0 (Product.row g s) 0) * x3 (ix2 0 q) := by
  unfold k1_pay1
  rw [shapeCast_apply _ _ (ix4 z g s q) (ix3 g s q) (by
      rw [Shape.rowMajor_val_three, Shape.rowMajor_val_four]
      show (g.val * 8 + s.val) * 1024 + q.val = ((z.val * 128 + g.val) * 8 + s.val) * 1024 + q.val
      omega)]
  rw [truncf_apply, shapeCast_apply _ _ (ix3 g s q) (ix2 (Product.row g s) q) (by
      rw [Shape.rowMajor_val_three, Shape.rowMajor_val_two]
      show (8 * g.val + s.val) * 1024 + q.val = (g.val * 8 + s.val) * 1024 + q.val
      omega)]
  rw [mulf_apply, mulf_apply]
  simp only [matmul]
  rw [show dot_S1024x4096_S4096x1024_S1024x1024_1_0_0_1_n_n = DotDims.plain 1024 4096 1024 from rfl,
    Ideal.matmul_plain_apply, constant_apply, Ideal.ofBits_zero_f32, zero_add,
    broadcastTo_apply _ _ (ix2 (Product.row g s) q) (ix2 (Product.row g s) 0) (fun a => by
      match a with
      | ⟨0, _⟩ => rfl
      | ⟨1, _⟩ => rfl),
    broadcastTo_apply _ _ (ix2 (Product.row g s) q) (ix2 0 q) (fun a => by
      match a with
      | ⟨0, _⟩ => rfl
      | ⟨1, _⟩ => rfl),
    shapeCast_self,
    shapeCast_apply _ _ (ix2 (Product.row g s) 0) (ix3 0 (Product.row g s) 0) (by
      rw [Shape.rowMajor_val_three, Shape.rowMajor_val_two]
      show (0 * 1024 + (Product.row g s).val) * 1 + 0 = (Product.row g s).val * 1 + 0
      omega)]
  refine congrArg (fun a : EReal => a * _ * _) (Finset.sum_congr rfl fun k _ => ?_)
  rw [shapeCast_apply _ _ (ix2 (Product.row g s) k) (ix3 0 (Product.row g s) k) (by
      rw [Shape.rowMajor_val_three, Shape.rowMajor_val_two]
      show (0 * 1024 + (Product.row g s).val) * 4096 + k.val = (Product.row g s).val * 4096 + k.val
      omega)]

/-! ## The blocks at coordinates -/

variable (m : (ℓ : Loc nD τ sig) → Buf (Elt Ideal) ℓ) (ρ : Dev nD → PrngReg)

theorem idx0 : ∀ t : Fin cfg1.N, win1_0.index t = ![t.val / 11, 0, 0] := (by decide +kernel : ∀ t : Fin grid1.N, _)
theorem idx1 : ∀ t : Fin cfg1.N, win1_1.index t = ![0, t.val % 11] := (by decide +kernel : ∀ t : Fin grid1.N, _)
theorem idx2 : ∀ t : Fin cfg1.N, win1_2.index t = ![t.val / 11, 0, 0] := (by decide +kernel : ∀ t : Fin grid1.N, _)
theorem idx3 : ∀ t : Fin cfg1.N, win1_3.index t = ![0, t.val % 11] := (by decide +kernel : ∀ t : Fin grid1.N, _)
theorem idx4 : ∀ t : Fin cfg1.N, win1_4.index t = ![t.val / 11, 0, 0, t.val % 11] := (by decide +kernel : ∀ t : Fin grid1.N, _)

/-- How many of a block's columns lie inside the arrays: the same for the weights, their scales and the result. -/
def cols (t : Fin cfg1.N) : Nat := if t.val % 11 = 10 then 768 else 1024

theorem xsize1 : ∀ t : Fin cfg1.N, win1_1.xsize (grid1.coords t) 0 = 4096 ∧ win1_1.xsize (grid1.coords t) 1 = cols t :=
  (by decide +kernel : ∀ t : Fin grid1.N, _)
theorem xsize3 : ∀ t : Fin cfg1.N, win1_3.xsize (grid1.coords t) 0 = 1 ∧ win1_3.xsize (grid1.coords t) 1 = cols t :=
  (by decide +kernel : ∀ t : Fin grid1.N, _)
theorem xsize4 : ∀ t : Fin cfg1.N, win1_4.xsize (grid1.coords t) 3 = cols t :=
  (by decide +kernel : ∀ t : Fin grid1.N, _)

theorem lt_N (t : Fin cfg1.N) : t.val < 22 := lt_of_lt_of_eq t.isLt (by decide)

/-- The batch and a column of a point's block, in the arrays. -/
def batch (t : Fin cfg1.N) : Fin 2 := ⟨t.val / 11, by have := lt_N t; omega⟩
def col (t : Fin cfg1.N) (q : Fin 1024) (h : q.val < cols t) : Fin 11008 :=
  ⟨t.val % 11 * 1024 + q.val, by unfold cols at h; split at h <;> omega⟩

/-- The arrays the call reads, as it finds them. -/
abbrev aCodes (c : Dev nD) : Vec Ideal S2x1024x4096 .fp8e4m3 := W2 m c (Proc.devRef .tc main_v0_0)
abbrev aWeights (c : Dev nD) : Vec Ideal S4096x11008 .fp8e4m3 := W2 m c (Proc.devRef .tc main_arg1)
abbrev aScales (c : Dev nD) : Vec Ideal S2x1024x1 .f32 := W2 m c (Proc.devRef .tc main_v0_1)
abbrev aWscales (c : Dev nD) : Vec Ideal S11008 .f32 := m ((c.tc : Thread nD τ).loc main_arg2)

/-- The host's reshape of the weight scales, at a column. -/
theorem V_scales (c : Dev nD) (n : Fin 11008) : (W2 m c (Proc.devRef .tc main_v1) : Vec Ideal S1x11008 .f32) (ix2 0 n) = aWscales m c (ix1 n) := by
  have e : (W2 m c (Proc.devRef .tc main_v1) : Vec Ideal S1x11008 .f32)
      = shapeCast S1x11008 (W1 m c (Proc.devRef .tc main_arg2) : Vec Ideal S11008 .f32) shapeCasts_S11008_S1x11008 := rfl
  rw [e, W1_keeps m c main_arg2 (by decide)]
  exact shapeCast_apply _ _ (ix2 0 n) (ix1 n) (by
    rw [Shape.rowMajor_val_two, Shape.rowMajor_val_one]; show n.val = 0 * 11008 + n.val; omega)

theorem blk0_apply (c : Dev nD) (t : Fin cfg1.N) (r : Fin 1024) (k : Fin 4096) :
    iblk (W2 m) c 0 t (ix3 0 r k) = aCodes m c (ix3 (batch t) r k) := by
  show aCodes m c (((cfg1.win 0).blk t).view.emb (ix3 0 r k)) = _
  refine congrArg _ ?_
  funext a; apply Fin.ext
  match a with
  | ⟨0, _⟩ => show win1_0.index t (0 : Fin 3) * 1 + 1 * 0 = t.val / 11; rw [idx0]; simp
  | ⟨1, _⟩ => show win1_0.index t (1 : Fin 3) * 1024 + 1 * r.val = r.val; rw [idx0]; simp
  | ⟨2, _⟩ => show win1_0.index t (2 : Fin 3) * 4096 + 1 * k.val = k.val; rw [idx0]; simp

theorem blk2_apply (c : Dev nD) (t : Fin cfg1.N) (r : Fin 1024) :
    iblk (W2 m) c 2 t (ix3 0 r 0) = aScales m c (ix3 (batch t) r 0) := by
  show aScales m c (((cfg1.win 2).blk t).view.emb (ix3 0 r 0)) = _
  refine congrArg _ ?_
  funext a; apply Fin.ext
  match a with
  | ⟨0, _⟩ => show win1_2.index t (0 : Fin 3) * 1 + 1 * 0 = t.val / 11; rw [idx2]; simp
  | ⟨1, _⟩ => show win1_2.index t (1 : Fin 3) * 1024 + 1 * r.val = r.val; rw [idx2]; simp
  | ⟨2, _⟩ => show win1_2.index t (2 : Fin 3) * 1 + 1 * 0 = 0; rw [idx2]; simp

/-- The weights' buffer on a column inside the array holds the weights, whatever filled the rest. -/
theorem fill1_apply (c : Dev nD) (t : Fin cfg1.N) (d : Vec Ideal S4096x1024 .fp8e4m3) (k : Fin 4096) (q : Fin 1024) (h : q.val < cols t) :
    win1_1.fill (grid1.coords t) d (iblk (W2 m) c 1 t) (ix2 k q) = aWeights m c (ix2 k (col t q h)) := by
  have hm : win1_1.moved (grid1.coords t) (ix2 k q) = true := (win1_1.moved_iff _ _).mpr fun a => by
    match a with
    | ⟨0, _⟩ => exact lt_of_lt_of_eq k.isLt (xsize1 t).1.symm
    | ⟨1, _⟩ => exact lt_of_lt_of_eq h (xsize1 t).2.symm
  unfold Pipeline.Window.fill
  rw [dif_pos hm]
  show aWeights m c (((cfg1.win 1).blk t).view.emb _) = _
  refine congrArg _ ?_
  funext a; apply Fin.ext
  match a with
  | ⟨0, _⟩ => show win1_1.index t (0 : Fin 2) * 4096 + 1 * k.val = k.val; rw [idx1]; simp
  | ⟨1, _⟩ => show win1_1.index t (1 : Fin 2) * 1024 + 1 * q.val = t.val % 11 * 1024 + q.val; rw [idx1]; simp

/-- Their scales' likewise. -/
theorem fill3_apply (c : Dev nD) (t : Fin cfg1.N) (d : Vec Ideal S1x1024 .f32) (q : Fin 1024) (h : q.val < cols t) :
    win1_3.fill (grid1.coords t) d (iblk (W2 m) c 3 t) (ix2 0 q) = aWscales m c (ix1 (col t q h)) := by
  have hm : win1_3.moved (grid1.coords t) (ix2 0 q) = true := (win1_3.moved_iff _ _).mpr fun a => by
    match a with
    | ⟨0, _⟩ => exact lt_of_lt_of_eq Nat.zero_lt_one (xsize3 t).1.symm
    | ⟨1, _⟩ => exact lt_of_lt_of_eq h (xsize3 t).2.symm
  unfold Pipeline.Window.fill
  rw [dif_pos hm]
  show (W2 m c (Proc.devRef .tc main_v1) : Vec Ideal S1x11008 .f32) (((cfg1.win 3).blk t).view.emb _) = _
  rw [← V_scales m c]
  refine congrArg _ ?_
  funext a; apply Fin.ext
  match a with
  | ⟨0, _⟩ => show win1_3.index t (0 : Fin 2) * 1 + 1 * 0 = 0; rw [idx3]; simp
  | ⟨1, _⟩ => show win1_3.index t (1 : Fin 2) * 1024 + 1 * q.val = t.val % 11 * 1024 + q.val; rw [idx3]; simp

/-- The result array: the scaled product of the arguments. -/
abbrev result (c : Dev nD) : Vec Ideal S2x128x8x11008 .bf16 :=
  Product.G (aCodes m c) (aWeights m c) (aScales m c)
    (aWscales m c)

/-- The payload on a column inside the array. -/
theorem pay_cols (c : Dev nD) (t : Fin cfg1.N) (d1 : Vec Ideal S4096x1024 .fp8e4m3) (d3 : Vec Ideal S1x1024 .f32)
    (Y : S1x128x8x1024.Idx) (h : (Y 3).val < cols t) :
    k1_pay1 (F := Ideal) (iblk (W2 m) c 0 t) (win1_1.fill (grid1.coords t) d1 (iblk (W2 m) c 1 t)) (iblk (W2 m) c 2 t)
        (win1_3.fill (grid1.coords t) d3 (iblk (W2 m) c 3 t)) Y
      = result m c (ix4 (batch t) (Y 1) (Y 2) (col t (Y 3) h)) := by
  obtain ⟨z, g, s, q, rfl⟩ : ∃ z g s q, Y = ix4 z g s q := ⟨_, _, _, _, eq_ix4 Y⟩
  have h' : q.val < cols t := h
  rw [pay_apply, blk2_apply, fill3_apply m c t d3 q h']
  refine (congrArg (fun a : EReal => a * _ * _) (Finset.sum_congr rfl fun k _ => ?_)).trans rfl
  rw [blk0_apply, fill1_apply m c t d1 k q h']

/-- What the body leaves in the result's buffer, on the part that is written back, is the block of the scaled product,
    whatever filled the operands' buffers past the edge. -/
theorem out_cut (c : Dev nD) (t : Fin cfg1.N) (d1 : Vec Ideal S4096x1024 .fp8e4m3) (d3 : Vec Ideal S1x1024 .f32)
    (y : (win1_4.xblock (grid1.coords t)).Idx) :
    out (F := Ideal) (iblk (W2 m) c 0 t) (win1_1.fill (grid1.coords t) d1 (iblk (W2 m) c 1 t)) (iblk (W2 m) c 2 t)
        (win1_3.fill (grid1.coords t) d3 (iblk (W2 m) c 3 t)) (win1_4.xinj (grid1.coords t) y)
      = result m c (((cfg1.win 4).blk t).view.emb y) := by
  have hq : (win1_4.xinj (grid1.coords t) y 3).val < cols t := lt_of_lt_of_eq (y 3).isLt (xsize4 t)
  have he : ((cfg1.win 4).blk t).view.emb y
      = ix4 (batch t) (win1_4.xinj (grid1.coords t) y 1) (win1_4.xinj (grid1.coords t) y 2) (col t (win1_4.xinj (grid1.coords t) y 3) hq) := by
    funext a; apply Fin.ext
    match a with
    | ⟨0, _⟩ =>
      show win1_4.index t (0 : Fin 4) * 1 + 1 * (y 0).val = t.val / 11
      have h0 : (win1_4.xinj (grid1.coords t) y 0).val < 1 := (win1_4.xinj (grid1.coords t) y 0).isLt
      have h0' : (y 0).val = 0 := by have : (win1_4.xinj (grid1.coords t) y 0).val = (y 0).val := rfl; omega
      rw [idx4, h0']; simp
    | ⟨1, _⟩ => show win1_4.index t (1 : Fin 4) * 128 + 1 * (y 1).val = (y 1).val; rw [idx4]; simp
    | ⟨2, _⟩ => show win1_4.index t (2 : Fin 4) * 8 + 1 * (y 2).val = (y 2).val; rw [idx4]; simp
    | ⟨3, _⟩ => show win1_4.index t (3 : Fin 4) * 1024 + 1 * (y 3).val = t.val % 11 * 1024 + (y 3).val; rw [idx4]; simp
  rw [he, out_eq]
  exact pay_cols m c t d1 d3 (win1_4.xinj (grid1.coords t) y) hq

/-! ## The run -/

open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Rounds
open Idealize.ShloMosaic.Pipeline (Dat RDat Cfg Window BodyObligation BodyObligationLoose cellOf)

local notation "𝕄" => MT nD τ sig Unit (Elt Ideal) ℕ (UR sig nD τ) ℕ

/-- So on the part written back the buffer is what the proof data names. -/
theorem cut_out (c : Dev nD) (t : Fin cfg1.N) (d1 : Vec Ideal S4096x1024 .fp8e4m3) (d3 : Vec Ideal S1x1024 .f32) :
    win1_4.cut (grid1.coords t) ((dat (F := Ideal) (W2 m) c).after 4 t)
      = win1_4.cut (grid1.coords t) (out (F := Ideal) (iblk (W2 m) c 0 t) (win1_1.fill (grid1.coords t) d1 (iblk (W2 m) c 1 t)) (iblk (W2 m) c 2 t)
          (win1_3.fill (grid1.coords t) d3 (iblk (W2 m) c 3 t))) := by
  rw [after_4 (W2 m) c t]
  funext y
  exact (out_cut m c t _ _ y).trans (out_cut m c t d1 d3 y).symm

/-- The body obligation, the result's window stated on the columns inside the array. -/
theorem body_obligation (c : Dev nD) :
    BodyObligationLoose (dat (F := Ideal) (W2 m) c) (defs₀ (F := Ideal)) Variants.none () Set.univ := fun t => by
  rw [bigSep_W1, bigSep_W1, defs₀_row]
  rw [show (dat (W2 m) c).Φ t.succ = (dat (W2 m) c).Φ t.castSucc from rfl,
    show (dat (W2 m) c).owesAt () t.succ = (dat (W2 m) c).owesAt () t.castSucc from rfl]
  iintro ⟨HΦ, Ho, ⟨%d0, H0⟩, ⟨%d1, H1⟩, ⟨%d2, H2⟩, ⟨%d3, H3⟩, ⟨%d4, H4⟩⟩
  rw [before_0 (W2 m) c t d0, before_1 (W2 m) c t d1, before_2 (W2 m) c t d2, before_3 (W2 m) c t d3]
  iapply (body_run (W2 m) c t d1 d3 _)
  isplitl [H0]; · iexact H0
  isplitl [H1]; · iexact H1
  isplitl [H2]; · iexact H2
  isplitl [H3]; · iexact H3
  isplitl [H4]; · iexists ((dat (F := Ideal) (W2 m) c).before 4 t d4); iexact H4
  iintro ⟨H0, H1, H2, H3, H4⟩
  isplitl [HΦ]; · iexact HΦ
  isplitl [Ho]; · iexact Ho
  isplitl [H0]
  · rw [after_0 (W2 m) c t]; iexact H0
  isplitl [H1]
  · iexists d1
    change _ ⊢ owns (c : Thread nD τ) (st1_1 t) fullShare (win1_1.fill (grid1.coords t) d1 (win1_1.cut (grid1.coords t) ((dat (W2 m) c).after 1 t)))
    rw [after_1 (W2 m) c t, cut_wblk]
  isplitl [H2]
  · rw [after_2 (W2 m) c t]; iexact H2
  isplitl [H3]
  · iexists d3
    change _ ⊢ owns (c : Thread nD τ) (st1_3 t) fullShare (win1_3.fill (grid1.coords t) d3 (win1_3.cut (grid1.coords t) ((dat (W2 m) c).after 3 t)))
    rw [after_3 (W2 m) c t, cut_sblk]
  iexists (out (F := Ideal) (iblk (W2 m) c 0 t) (win1_1.fill (grid1.coords t) d1 (iblk (W2 m) c 1 t)) (iblk (W2 m) c 2 t)
    (win1_3.fill (grid1.coords t) d3 (iblk (W2 m) c 3 t)))
  change _ ⊢ owns (c : Thread nD τ) (st1_4 t) fullShare (win1_4.fill (grid1.coords t) _ (win1_4.cut (grid1.coords t) ((dat (W2 m) c).after 4 t)))
  rw [cut_out m c t d1 d3, win1_4.fill_cut]

/-- The result array after the run. -/
theorem final (c : Dev nD) : (dat (F := Ideal) (W2 m) c).arrAt 4 cfg1.N = result m c := by
  refine (dat (W2 m) c).arrAt_eq_of_covers 4 (result m c) (by decide +kernel) fun t hf y => ?_
  show (dat (F := Ideal) (W2 m) c).after 4 t (win1_4.xinj (grid1.coords t) y) = _
  rw [after_4 (W2 m) c t]
  exact out_cut m c t _ _ y

/-- What the whole call leaves as its product. -/
abbrev product (c : Dev nD) : Vec Ideal S2x128x8x11008 .bf16 :=
  Product.G (WholeValue.codes (m ((c.tc : Thread nD τ).loc main_arg0))) (m ((c.tc : Thread nD τ).loc main_arg1))
    (WholeValue.scales (m ((c.tc : Thread nD τ).loc main_arg0))) (m ((c.tc : Thread nD τ).loc main_arg2))

theorem result_eq (c : Dev nD) : result m c = product m c := by
  unfold result product aCodes aWeights aScales aWscales
  rw [W2_codes, W2_scales, W2_main_arg1]

/-- The run: the product, the codes and the scales of the arguments, which end as they were. -/
theorem run_value : θ_run defs (onTc (τ := τ) (main (F := Ideal))) ⟨m, fun _ => 0, ρ⟩ fun r => ∀ c : Dev nD,
      r.2.mem ((c : Thread nD τ).loc main_v2) = product m c
      ∧ r.2.mem ((c : Thread nD τ).loc main_v0_0) = WholeValue.codes (m ((c.tc : Thread nD τ).loc main_arg0))
      ∧ r.2.mem ((c : Thread nD τ).loc main_v0_1) = WholeValue.scales (m ((c.tc : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (run m ρ (fun _ => false) (fun c => body_obligation m c))
  obtain ⟨V, hV, hr⟩ := h.1 c
  exact ⟨(hr _ (mem_uc main_v2 (by decide))).trans ((hV.1 4 rfl).trans ((final m c).trans (result_eq m c))),
    (hr _ (mem_uc main_v0_0 (by decide))).trans ((Ends.input m hV 0 rfl rfl).trans (W2_codes m c)),
    (hr _ (mem_uc main_v0_1 (by decide))).trans ((Ends.input m hV 2 rfl rfl).trans (W2_scales m c)),
    (hr _ (mem_uc main_arg0 (by decide))).trans ((Ends.off m hV main_arg0 (by decide) (by decide)).trans (W2_main_arg0 m c)),
    (hr _ (mem_uc main_arg1 (by decide))).trans ((Ends.input m hV 1 rfl rfl).trans (W2_main_arg1 m c)),
    (hr _ (mem_uc main_arg2 (by decide))).trans ((Ends.off m hV main_arg2 (by decide) (by decide)).trans (W2_main_arg2 m c))⟩

end Cert.WholeIdeal.Hand

end
-- ==== Proof.lean ====
module

public import proofs.«01_k».proof.Defs
public import proofs.«01_k».proof.Proof.Gen.Whole
public import proofs.«01_k».proof.Proof.Gen.Whole.Skeleton
public import proofs.«01_k».proof.Proof.Gen.Whole.Launch
public import proofs.«01_k».proof.Proof.Gen.Whole.Regions
public import proofs.«01_k».proof.Proof.Gen.Whole.Points
public import proofs.«01_k».proof.Proof.Gen.WholeIdeal
public import proofs.«01_k».proof.Proof.Gen.WholeIdeal.Skeleton
public import proofs.«01_k».proof.Proof.Gen.WholeIdeal.Launch
public import proofs.«01_k».proof.Proof.Gen.WholeIdeal.Regions
public import proofs.«01_k».proof.Proof.Gen.WholeIdeal.Points
public import proofs.«01_k».proof.Proof.Gen.WholeReferenceIdeal
public import proofs.«01_k».proof.Proof.Gen.WholeReferenceIdeal.Skeleton
public import proofs.«01_k».proof.Proof.Gen.WholeReferenceIdeal.Launch
public import proofs.«01_k».proof.Proof.Gen.WholeReferenceIdeal.Points
public import proofs.«01_k».proof.Proof.Gen.WholeReferenceIdeal.Frame
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantReference
public import proofs.«01_k».proof.Proof.Gen.QuantReference.Skeleton
public import proofs.«01_k».proof.Proof.Gen.QuantReference.Launch
public import proofs.«01_k».proof.Proof.Gen.QuantReference.Points
public import proofs.«01_k».proof.Proof.Gen.QuantReference.Frame
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.WholeReferenceIdeal.Value
public import proofs.«01_k».proof.Proof.KernelTile
public import proofs.«01_k».proof.Proof.MatmulValue
public import proofs.«01_k».proof.Proof.QuantValue
public import proofs.«01_k».proof.Proof.WholeRun
public import proofs.«01_k».proof.Proof.WholeReferenceValue
public import proofs.«01_k».proof.Proof.WholeIdealProduct
public import Idealize.ShloMosaic.Adequacy
public import Idealize.ShloMosaic.Init

@[expose] public section

noncomputable section

namespace Cert.Proof

open Idealize.ShloMosaic Idealize.SL.Sem Cert.Whole

/-- The whole kernel's three results are the reference's over the reals. -/
theorem whole : algebraic_WholeIdeal_WholeReferenceIdeal (hWholeIdeal := Cert.WholeIdeal.Gen.facts)
    (hWholeReferenceIdeal := Cert.WholeReferenceIdeal.Gen.facts) :=
  fun m g m' g' _ hag =>
    ⟨fun c => Cert.WholeIdeal.Hand.product m c,
      fun c => Cert.WholeValue.codes (m ((c.tc : Thread Cert.WholeIdeal.nD Cert.WholeIdeal.τ).loc Cert.WholeIdeal.main_arg0)),
      fun c => Cert.WholeValue.scales (m ((c.tc : Thread Cert.WholeIdeal.nD Cert.WholeIdeal.τ).loc Cert.WholeIdeal.main_arg0)),
      Cert.WholeIdeal.Hand.run_value m g,
      (θ_run _ _ _).mono (fun _ h c => by
          obtain ⟨h0, h1, h2⟩ := hag c
          refine ⟨(h c).1.trans ?_, (h c).2.1.trans ?_, (h c).2.2.1.trans ?_, (h c).2.2.2⟩
          · rw [h0, h1, h2]; exact Cert.WholeReferenceIdeal.Hand.G3_eq _ _ _
          · rw [h0, h1, h2]; exact Cert.WholeReferenceIdeal.Hand.G4_eq _ _ _
          · rw [h0, h1, h2]; exact Cert.WholeReferenceIdeal.Hand.G5_eq _ _ _)
        (Cert.WholeReferenceIdeal.Value.run m' g')⟩

/-- The quantiser's two results are the reference's, bit for bit. -/
theorem quant : bitexact_Quant_QuantReference (hQuant := Cert.Quant.Gen.facts) (hQuantReference := Cert.QuantReference.Gen.facts) :=
  fun m g m' g' _ hag =>
    ⟨fun c => Cert.Quantiser.codes (m ((c.tc : Thread Cert.Quant.nD Cert.Quant.τ).loc Cert.Quant.main_arg0)),
      fun c => Cert.Quantiser.scales (m ((c.tc : Thread Cert.Quant.nD Cert.Quant.τ).loc Cert.Quant.main_arg0)),
      Cert.Quant.Hand.run m g,
      (θ_run _ _ _).mono (fun _ h c => ⟨(h c).1.trans (congrArg Cert.Quantiser.codes (hag c)),
        (h c).2.1.trans (congrArg Cert.Quantiser.scales (hag c)), (h c).2.2⟩) (Cert.QuantReference.Hand.run m' g')⟩

/-- The product is the reference's over the reals. -/
theorem product : algebraic_KernelIdeal_ReferenceIdeal (hKernelIdeal := Cert.KernelIdeal.Gen.facts)
    (hReferenceIdeal := Cert.ReferenceIdeal.Gen.facts) :=
  fun m g m' g' _ hag =>
    ⟨fun c => Cert.KernelIdeal.Hand.result m c, Cert.KernelIdeal.Hand.run m g,
      (θ_run _ _ _).mono (fun _ h c => ⟨(h c).1.trans (by
          obtain ⟨h0, h1, h2, h3⟩ := hag c
          rw [h0, h1, h2, h3]
          exact Cert.ReferenceIdeal.Hand.value _ _ _ _), (h c).2⟩) (Cert.ReferenceIdeal.Value.run m' g')⟩

theorem claim : Cert.Claim := ⟨Cert.Whole.Gen.facts, Cert.WholeIdeal.Gen.facts, Cert.WholeReferenceIdeal.Gen.facts, Cert.Quant.Gen.facts, Cert.QuantReference.Gen.facts, Cert.Kernel.Gen.facts, Cert.KernelIdeal.Gen.facts, Cert.ReferenceIdeal.Gen.facts,
  fun m g _ => Cert.Whole.Hand.frame m g, fun m g _ => Cert.WholeIdeal.Hand.frame m g, fun m g _ => Cert.WholeReferenceIdeal.Gen.frame m g,
  fun m g _ => Cert.Quant.Gen.frame m g, fun m g _ => Cert.QuantReference.Gen.frame m g,
  fun m g _ => Cert.Kernel.Hand.frame m g, fun m g _ => Cert.KernelIdeal.Hand.frame m g,
  fun m g _ => Cert.ReferenceIdeal.Gen.frame m g, trivial, whole, quant, trivial, product⟩

end Cert.Proof

end
